-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x5120 : Shape := ⟨3, ![1, 2048, 5120]⟩
abbrev S2560x640 : Shape := ⟨2, ![2560, 640]⟩
abbrev S80x640 : Shape := ⟨2, ![80, 640]⟩
abbrev S5120x16 : Shape := ⟨2, ![5120, 16]⟩
abbrev S16x640 : Shape := ⟨2, ![16, 640]⟩
abbrev S2048x5120 : Shape := ⟨2, ![2048, 5120]⟩
abbrev S2048x640 : Shape := ⟨2, ![2048, 640]⟩
abbrev S256x5120 : Shape := ⟨2, ![256, 5120]⟩
abbrev S256x640 : Shape := ⟨2, ![256, 640]⟩
abbrev S5120x656 : Shape := ⟨2, ![5120, 656]⟩
abbrev S512x640 : Shape := ⟨2, ![512, 640]⟩
abbrev S8x640 : Shape := ⟨2, ![8, 640]⟩
abbrev S64x640 : Shape := ⟨2, ![64, 640]⟩
abbrev S1x640 : Shape := ⟨2, ![1, 640]⟩
abbrev S256x656 : Shape := ⟨2, ![256, 656]⟩
abbrev S256x16 : Shape := ⟨2, ![256, 16]⟩
abbrev S1x2048x640 : Shape := ⟨3, ![1, 2048, 640]⟩

abbrev nBuf : Space → Nat
  | .hbm => 8
  | .vmem => 9
  | .smem => 0
  | _ => 0

abbrev bufTy : (tb : Table) → Fin (tcTables nBuf tb) → BufTy
  | .hbm, ⟨0, _⟩ => ⟨S1x2048x5120, .bf16⟩
  | .hbm, ⟨1, _⟩ => ⟨S2560x640, .i8⟩
  | .hbm, ⟨2, _⟩ => ⟨S80x640, .f32⟩
  | .hbm, ⟨3, _⟩ => ⟨S5120x16, .bf16⟩
  | .hbm, ⟨4, _⟩ => ⟨S16x640, .bf16⟩
  | .hbm, ⟨5, _⟩ => ⟨S2048x5120, .bf16⟩
  | .hbm, ⟨6, _⟩ => ⟨S2048x640, .bf16⟩
  | .hbm, ⟨7, _⟩ => ⟨S1x2048x640, .bf16⟩
  | .local _ .vmem, ⟨0, _⟩ => ⟨S256x5120, .bf16⟩
  | .local _ .vmem, ⟨1, _⟩ => ⟨S256x5120, .bf16⟩
  | .local _ .vmem, ⟨2, _⟩ => ⟨S2560x640, .i8⟩
  | .local _ .vmem, ⟨3, _⟩ => ⟨S80x640, .f32⟩
  | .local _ .vmem, ⟨4, _⟩ => ⟨S5120x16, .bf16⟩
  | .local _ .vmem, ⟨5, _⟩ => ⟨S16x640, .bf16⟩
  | .local _ .vmem, ⟨6, _⟩ => ⟨S256x640, .bf16⟩
  | .local _ .vmem, ⟨7, _⟩ => ⟨S256x640, .bf16⟩
  | .local _ .vmem, ⟨8, _⟩ => ⟨S5120x656, .bf16⟩
  | _, _ => ⟨S1x2048x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_13 : BitVec 32 := 0#32
  let c10_i32 : BitVec 32 := 10#32
  let v21 : BitVec 32 := Scalar.addi c0_i32_13 c10_i32
  let c1_i32 : BitVec 32 := 1#32
  ⟨c0_i32_13, v21, c1_i32⟩
def k0_mult1 (k0_t1 : Fin k0_t1_loop.trips) : BitVec 32 :=
  let c0_i32_13 : BitVec 32 := 0#32
  let c1_i32 : BitVec 32 := 1#32
  let arg8 : BitVec 32 := Scf.iv c0_i32_13 c1_i32 k0_t1
  let c256_i32 : BitVec 32 := 256#32
  let v22 : BitVec 32 := Scalar.muli arg8 c256_i32
  v22
def k0_off1 (k0_t1 : Fin k0_t1_loop.trips) : Fin 2 → Nat :=
  let c0_i32_13 : BitVec 32 := 0#32
  let c1_i32 : BitVec 32 := 1#32
  let arg8 : BitVec 32 := Scf.iv c0_i32_13 c1_i32 k0_t1
  let c256_i32 : BitVec 32 := 256#32
  let v22 : BitVec 32 := Scalar.muli arg8 c256_i32
  let v23 : BitVec 32 := v22
  let v24 : Index := Scalar.indexCast v23
  let c0_15 : Index := 0#32
  ![v24.toNat, 0]
def k0_mult2 (k0_t1 : Fin k0_t1_loop.trips) : BitVec 32 :=
  let c0_i32_13 : BitVec 32 := 0#32
  let c1_i32 : BitVec 32 := 1#32
  let arg8 : BitVec 32 := Scf.iv c0_i32_13 c1_i32 k0_t1
  let c8_i32 : BitVec 32 := 8#32
  let v80 : BitVec 32 := Scalar.muli arg8 c8_i32
  v80
def k0_off2 (k0_t1 : Fin k0_t1_loop.trips) : Fin 2 → Nat :=
  let c0_i32_13 : BitVec 32 := 0#32
  let c1_i32 : BitVec 32 := 1#32
  let arg8 : BitVec 32 := Scf.iv c0_i32_13 c1_i32 k0_t1
  let c8_i32 : BitVec 32 := 8#32
  let v80 : BitVec 32 := Scalar.muli arg8 c8_i32
  let v81 : BitVec 32 := v80
  let v82 : Index := Scalar.indexCast v81
  let c0_35 : Index := 0#32
  ![v82.toNat, 0]
def k0_mult3 (k0_t1 : Fin k0_t1_loop.trips) : BitVec 32 :=
  let c0_i32_13 : BitVec 32 := 0#32
  let c1_i32 : BitVec 32 := 1#32
  let arg8 : BitVec 32 := Scf.iv c0_i32_13 c1_i32 k0_t1
  let c512_i32 : BitVec 32 := 512#32
  let v89 : BitVec 32 := Scalar.muli arg8 c512_i32
  let c0_i32_36 : BitVec 32 := 0#32
  let v90 : BitVec 32 := Scalar.addi v89 c0_i32_36
  v90
def k0_off3 (k0_t1 : Fin k0_t1_loop.trips) (c0_i32_36 : BitVec 32) : Fin 2 → Nat :=
  let c0_i32_13 : BitVec 32 := 0#32
  let c1_i32 : BitVec 32 := 1#32
  let arg8 : BitVec 32 := Scf.iv c0_i32_13 c1_i32 k0_t1
  let c512_i32 : BitVec 32 := 512#32
  let v89 : BitVec 32 := Scalar.muli arg8 c512_i32
  let v90 : BitVec 32 := Scalar.addi v89 c0_i32_36
  let v91 : BitVec 32 := v90
  let v92 : Index := Scalar.indexCast v91
  let c0_37 : Index := 0#32
  ![v92.toNat, 0]
def k0_mult4 (k0_t1 : Fin k0_t1_loop.trips) : BitVec 32 :=
  let c0_i32_13 : BitVec 32 := 0#32
  let c1_i32 : BitVec 32 := 1#32
  let arg8 : BitVec 32 := Scf.iv c0_i32_13 c1_i32 k0_t1
  let c512_i32_38 : BitVec 32 := 512#32
  let v100 : BitVec 32 := Scalar.muli arg8 c512_i32_38
  let c64_i32 : BitVec 32 := 64#32
  let v101 : BitVec 32 := Scalar.addi v100 c64_i32
  v101
def k0_mult5 (k0_t1 : Fin k0_t1_loop.trips) : BitVec 32 :=
  let c0_i32_13 : BitVec 32 := 0#32
  let c1_i32 : BitVec 32 := 1#32
  let arg8 : BitVec 32 := Scf.iv c0_i32_13 c1_i32 k0_t1
  let c512_i32_40 : BitVec 32 := 512#32
  let v111 : BitVec 32 := Scalar.muli arg8 c512_i32_40
  let c128_i32 : BitVec 32 := 128#32
  let v112 : BitVec 32 := Scalar.addi v111 c128_i32
  v112
def k0_mult6 (k0_t1 : Fin k0_t1_loop.trips) : BitVec 32 :=
  let c0_i32_13 : BitVec 32 := 0#32
  let c1_i32 : BitVec 32 := 1#32
  let arg8 : BitVec 32 := Scf.iv c0_i32_13 c1_i32 k0_t1
  let c512_i32_42 : BitVec 32 := 512#32
  let v122 : BitVec 32 := Scalar.muli arg8 c512_i32_42
  let c192_i32 : BitVec 32 := 192#32
  let v123 : BitVec 32 := Scalar.addi v122 c192_i32
  v123
def k0_mult7 (k0_t1 : Fin k0_t1_loop.trips) : BitVec 32 :=
  let c0_i32_13 : BitVec 32 := 0#32
  let c1_i32 : BitVec 32 := 1#32
  let arg8 : BitVec 32 := Scf.iv c0_i32_13 c1_i32 k0_t1
  let c512_i32_44 : BitVec 32 := 512#32
  let v133 : BitVec 32 := Scalar.muli arg8 c512_i32_44
  let c256_i32_45 : BitVec 32 := 256#32
  let v134 : BitVec 32 := Scalar.addi v133 c256_i32_45
  v134
def k0_mult8 (k0_t1 : Fin k0_t1_loop.trips) : BitVec 32 :=
  let c0_i32_13 : BitVec 32 := 0#32
  let c1_i32 : BitVec 32 := 1#32
  let arg8 : BitVec 32 := Scf.iv c0_i32_13 c1_i32 k0_t1
  let c512_i32_47 : BitVec 32 := 512#32
  let v144 : BitVec 32 := Scalar.muli arg8 c512_i32_47
  let c320_i32 : BitVec 32 := 320#32
  let v145 : BitVec 32 := Scalar.addi v144 c320_i32
  v145
def k0_mult9 (k0_t1 : Fin k0_t1_loop.trips) : BitVec 32 :=
  let c0_i32_13 : BitVec 32 := 0#32
  let c1_i32 : BitVec 32 := 1#32
  let arg8 : BitVec 32 := Scf.iv c0_i32_13 c1_i32 k0_t1
  let c512_i32_49 : BitVec 32 := 512#32
  let v155 : BitVec 32 := Scalar.muli arg8 c512_i32_49
  let c384_i32 : BitVec 32 := 384#32
  let v156 : BitVec 32 := Scalar.addi v155 c384_i32
  v156
def k0_mult10 (k0_t1 : Fin k0_t1_loop.trips) : BitVec 32 :=
  let c0_i32_13 : BitVec 32 := 0#32
  let c1_i32 : BitVec 32 := 1#32
  let arg8 : BitVec 32 := Scf.iv c0_i32_13 c1_i32 k0_t1
  let c512_i32_51 : BitVec 32 := 512#32
  let v166 : BitVec 32 := Scalar.muli arg8 c512_i32_51
  let c448_i32 : BitVec 32 := 448#32
  let v167 : BitVec 32 := Scalar.addi v166 c448_i32
  v167
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2560x640 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S80x640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5120x16 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x640 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x640 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S1x2048x5120 : Shape := ⟨3, ![1, 2048, 5120]⟩
abbrev S2560x640 : Shape := ⟨2, ![2560, 640]⟩
abbrev S80x640 : Shape := ⟨2, ![80, 640]⟩
abbrev S5120x16 : Shape := ⟨2, ![5120, 16]⟩
abbrev S16x640 : Shape := ⟨2, ![16, 640]⟩
abbrev S2 : Shape := ⟨1, ![2]⟩
abbrev S1x2x1 : Shape := ⟨3, ![1, 2, 1]⟩
abbrev S2560x1x640 : Shape := ⟨3, ![2560, 1, 640]⟩
abbrev S2560x2x640 : Shape := ⟨3, ![2560, 2, 640]⟩
abbrev S_ : Shape := ⟨0, ![]⟩
abbrev S5120x640 : Shape := ⟨2, ![5120, 640]⟩
abbrev S80x64x640 : Shape := ⟨3, ![80, 64, 640]⟩
abbrev S80x1x640 : Shape := ⟨3, ![80, 1, 640]⟩
abbrev S1x2048x640 : Shape := ⟨3, ![1, 2048, 640]⟩
abbrev S1x2048x16 : Shape := ⟨3, ![1, 2048, 16]⟩

abbrev nBuf : Space → Nat
  | .hbm => 114
  | .vmem => 0
  | .smem => 0
  | _ => 0

abbrev bufTy : (tb : Table) → Fin (tcTables nBuf tb) → BufTy
  | .hbm, ⟨0, _⟩ => ⟨S1x2048x5120, .bf16⟩
  | .hbm, ⟨1, _⟩ => ⟨S2560x640, .i8⟩
  | .hbm, ⟨2, _⟩ => ⟨S80x640, .f32⟩
  | .hbm, ⟨3, _⟩ => ⟨S5120x16, .bf16⟩
  | .hbm, ⟨4, _⟩ => ⟨S16x640, .bf16⟩
  | .hbm, ⟨5, _⟩ => ⟨S2, .i32⟩
  | .hbm, ⟨6, _⟩ => ⟨S80x640, .bf16⟩
  | .hbm, ⟨7, _⟩ => ⟨S1x2x1, .i32⟩
  | .hbm, ⟨8, _⟩ => ⟨S2560x640, .i32⟩
  | .hbm, ⟨9, _⟩ => ⟨S2560x1x640, .i32⟩
  | .hbm, ⟨10, _⟩ => ⟨S2560x2x640, .i32⟩
  | .hbm, ⟨11, _⟩ => ⟨S2560x2x640, .i32⟩
  | .hbm, ⟨12, _⟩ => ⟨S2560x2x640, .i32⟩
  | .hbm, ⟨13, _⟩ => ⟨S_, .i32⟩
  | .hbm, ⟨14, _⟩ => ⟨S2560x2x640, .i32⟩
  | .hbm, ⟨15, _⟩ => ⟨S2560x2x640, .i32⟩
  | .hbm, ⟨16, _⟩ => ⟨S5120x640, .i32⟩
  | .hbm, ⟨17, _⟩ => ⟨S_, .i32⟩
  | .hbm, ⟨18, _⟩ => ⟨S5120x640, .i32⟩
  | .hbm, ⟨19, _⟩ => ⟨S5120x640, .i32⟩
  | .hbm, ⟨20, _⟩ => ⟨S_, .i32⟩
  | .hbm, ⟨21, _⟩ => ⟨S5120x640, .i32⟩
  | .hbm, ⟨22, _⟩ => ⟨S5120x640, .i32⟩
  | .hbm, ⟨23, _⟩ => ⟨S_, .i32⟩
  | .hbm, ⟨24, _⟩ => ⟨S5120x640, .i32⟩
  | .hbm, ⟨25, _⟩ => ⟨S5120x640, .i1⟩
  | .hbm, ⟨26, _⟩ => ⟨S_, .bf16⟩
  | .hbm, ⟨27, _⟩ => ⟨S_, .bf16⟩
  | .hbm, ⟨28, _⟩ => ⟨S5120x640, .bf16⟩
  | .hbm, ⟨29, _⟩ => ⟨S5120x640, .bf16⟩
  | .hbm, ⟨30, _⟩ => ⟨S5120x640, .bf16⟩
  | .hbm, ⟨31, _⟩ => ⟨S_, .bf16⟩
  | .hbm, ⟨32, _⟩ => ⟨S_, .bf16⟩
  | .hbm, ⟨33, _⟩ => ⟨S5120x640, .bf16⟩
  | .hbm, ⟨34, _⟩ => ⟨S5120x640, .bf16⟩
  | .hbm, ⟨35, _⟩ => ⟨S5120x640, .bf16⟩
  | .hbm, ⟨36, _⟩ => ⟨S_, .bf16⟩
  | .hbm, ⟨37, _⟩ => ⟨S_, .bf16⟩
  | .hbm, ⟨38, _⟩ => ⟨S5120x640, .bf16⟩
  | .hbm, ⟨39, _⟩ => ⟨S5120x640, .bf16⟩
  | .hbm, ⟨40, _⟩ => ⟨S5120x640, .bf16⟩
  | .hbm, ⟨41, _⟩ => ⟨S_, .bf16⟩
  | .hbm, ⟨42, _⟩ => ⟨S_, .bf16⟩
  | .hbm, ⟨43, _⟩ => ⟨S5120x640, .bf16⟩
  | .hbm, ⟨44, _⟩ => ⟨S5120x640, .bf16⟩
  | .hbm, ⟨45, _⟩ => ⟨S5120x640, .bf16⟩
  | .hbm, ⟨46, _⟩ => ⟨S_, .bf16⟩
  | .hbm, ⟨47, _⟩ => ⟨S_, .bf16⟩
  | .hbm, ⟨48, _⟩ => ⟨S5120x640, .bf16⟩
  | .hbm, ⟨49, _⟩ => ⟨S5120x640, .bf16⟩
  | .hbm, ⟨50, _⟩ => ⟨S5120x640, .bf16⟩
  | .hbm, ⟨51, _⟩ => ⟨S_, .bf16⟩
  | .hbm, ⟨52, _⟩ => ⟨S_, .bf16⟩
  | .hbm, ⟨53, _⟩ => ⟨S5120x640, .bf16⟩
  | .hbm, ⟨54, _⟩ => ⟨S5120x640, .bf16⟩
  | .hbm, ⟨55, _⟩ => ⟨S5120x640, .bf16⟩
  | .hbm, ⟨56, _⟩ => ⟨S_, .bf16⟩
  | .hbm, ⟨57, _⟩ => ⟨S_, .bf16⟩
  | .hbm, ⟨58, _⟩ => ⟨S5120x640, .bf16⟩
  | .hbm, ⟨59, _⟩ => ⟨S5120x640, .bf16⟩
  | .hbm, ⟨60, _⟩ => ⟨S5120x640, .bf16⟩
  | .hbm, ⟨61, _⟩ => ⟨S_, .bf16⟩
  | .hbm, ⟨62, _⟩ => ⟨S_, .bf16⟩
  | .hbm, ⟨63, _⟩ => ⟨S5120x640, .bf16⟩
  | .hbm, ⟨64, _⟩ => ⟨S5120x640, .bf16⟩
  | .hbm, ⟨65, _⟩ => ⟨S5120x640, .bf16⟩
  | .hbm, ⟨66, _⟩ => ⟨S_, .i32⟩
  | .hbm, ⟨67, _⟩ => ⟨S5120x640, .i32⟩
  | .hbm, ⟨68, _⟩ => ⟨S5120x640, .i32⟩
  | .hbm, ⟨69, _⟩ => ⟨S_, .i32⟩
  | .hbm, ⟨70, _⟩ => ⟨S5120x640, .i32⟩
  | .hbm, ⟨71, _⟩ => ⟨S5120x640, .i32⟩
  | .hbm, ⟨72, _⟩ => ⟨S_, .i32⟩
  | .hbm, ⟨73, _⟩ => ⟨S5120x640, .i32⟩
  | .hbm, ⟨74, _⟩ => ⟨S5120x640, .i1⟩
  | .hbm, ⟨75, _⟩ => ⟨S5120x640, .bf16⟩
  | .hbm, ⟨76, _⟩ => ⟨S5120x640, .bf16⟩
  | .hbm, ⟨77, _⟩ => ⟨S5120x640, .bf16⟩
  | .hbm, ⟨78, _⟩ => ⟨S5120x640, .bf16⟩
  | .hbm, ⟨79, _⟩ => ⟨S_, .i32⟩
  | .hbm, ⟨80, _⟩ => ⟨S5120x640, .i32⟩
  | .hbm, ⟨81, _⟩ => ⟨S5120x640, .i32⟩
  | .hbm, ⟨82, _⟩ => ⟨S_, .i32⟩
  | .hbm, ⟨83, _⟩ => ⟨S5120x640, .i32⟩
  | .hbm, ⟨84, _⟩ => ⟨S5120x640, .i32⟩
  | .hbm, ⟨85, _⟩ => ⟨S_, .i32⟩
  | .hbm, ⟨86, _⟩ => ⟨S5120x640, .i32⟩
  | .hbm, ⟨87, _⟩ => ⟨S5120x640, .i1⟩
  | .hbm, ⟨88, _⟩ => ⟨S5120x640, .bf16⟩
  | .hbm, ⟨89, _⟩ => ⟨S5120x640, .bf16⟩
  | .hbm, ⟨90, _⟩ => ⟨S_, .i32⟩
  | .hbm, ⟨91, _⟩ => ⟨S5120x640, .i32⟩
  | .hbm, ⟨92, _⟩ => ⟨S5120x640, .i32⟩
  | .hbm, ⟨93, _⟩ => ⟨S_, .i32⟩
  | .hbm, ⟨94, _⟩ => ⟨S5120x640, .i32⟩
  | .hbm, ⟨95, _⟩ => ⟨S5120x640, .i32⟩
  | .hbm, ⟨96, _⟩ => ⟨S_, .i32⟩
  | .hbm, ⟨97, _⟩ => ⟨S5120x640, .i32⟩
  | .hbm, ⟨98, _⟩ => ⟨S5120x640, .i1⟩
  | .hbm, ⟨99, _⟩ => ⟨S5120x640, .bf16⟩
  | .hbm, ⟨100, _⟩ => ⟨S80x64x640, .bf16⟩
  | .hbm, ⟨101, _⟩ => ⟨S80x1x640, .bf16⟩
  | .hbm, ⟨102, _⟩ => ⟨S80x64x640, .bf16⟩
  | .hbm, ⟨103, _⟩ => ⟨S80x64x640, .bf16⟩
  | .hbm, ⟨104, _⟩ => ⟨S5120x640, .bf16⟩
  | .hbm, ⟨105, _⟩ => ⟨S1x2048x640, .f32⟩
  | .hbm, ⟨106, _⟩ => ⟨S1x2048x16, .f32⟩
  | .hbm, ⟨107, _⟩ => ⟨S1x2048x16, .bf16⟩
  | .hbm, ⟨108, _⟩ => ⟨S1x2048x640, .f32⟩
  | .hbm, ⟨109, _⟩ => ⟨S_, .f32⟩
  | .hbm, ⟨110, _⟩ => ⟨S1x2048x640, .f32⟩
  | .hbm, ⟨111, _⟩ => ⟨S1x2048x640, .f32⟩
  | .hbm, ⟨112, _⟩ => ⟨S1x2048x640, .f32⟩
  | .hbm, ⟨113, _⟩ => ⟨S1x2048x640, .bf16⟩
  | _, _ => ⟨S1x2048x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_c_3 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_cst_5 : Ref sig .tc := ⟨.hbm, 31, rfl⟩
abbrev main_cst_6 : Ref sig .tc := ⟨.hbm, 32, rfl⟩
abbrev main_call1_v0 : Ref sig .tc := ⟨.hbm, 33, rfl⟩
abbrev main_call1_v1 : Ref sig .tc := ⟨.hbm, 34, rfl⟩
abbrev main_v17 : Ref sig .tc := ⟨.hbm, 35, rfl⟩
abbrev main_cst_7 : Ref sig .tc := ⟨.hbm, 36, rfl⟩
abbrev main_cst_8 : Ref sig .tc := ⟨.hbm, 37, rfl⟩
abbrev main_call2_v0 : Ref sig .tc := ⟨.hbm, 38, rfl⟩
abbrev main_call2_v1 : Ref sig .tc := ⟨.hbm, 39, rfl⟩
abbrev main_v18 : Ref sig .tc := ⟨.hbm, 40, rfl⟩
abbrev main_cst_9 : Ref sig .tc := ⟨.hbm, 41, rfl⟩
abbrev main_cst_10 : Ref sig .tc := ⟨.hbm, 42, rfl⟩
abbrev main_call3_v0 : Ref sig .tc := ⟨.hbm, 43, rfl⟩
abbrev main_call3_v1 : Ref sig .tc := ⟨.hbm, 44, rfl⟩
abbrev main_v19 : Ref sig .tc := ⟨.hbm, 45, rfl⟩
abbrev main_cst_11 : Ref sig .tc := ⟨.hbm, 46, rfl⟩
abbrev main_cst_12 : Ref sig .tc := ⟨.hbm, 47, rfl⟩
abbrev main_call4_v0 : Ref sig .tc := ⟨.hbm, 48, rfl⟩
abbrev main_call4_v1 : Ref sig .tc := ⟨.hbm, 49, rfl⟩
abbrev main_v20 : Ref sig .tc := ⟨.hbm, 50, rfl⟩
abbrev main_cst_13 : Ref sig .tc := ⟨.hbm, 51, rfl⟩
abbrev main_cst_14 : Ref sig .tc := ⟨.hbm, 52, rfl⟩
abbrev main_call5_v0 : Ref sig .tc := ⟨.hbm, 53, rfl⟩
abbrev main_call5_v1 : Ref sig .tc := ⟨.hbm, 54, rfl⟩
abbrev main_v21 : Ref sig .tc := ⟨.hbm, 55, rfl⟩
abbrev main_cst_15 : Ref sig .tc := ⟨.hbm, 56, rfl⟩
abbrev main_cst_16 : Ref sig .tc := ⟨.hbm, 57, rfl⟩
abbrev main_call6_v0 : Ref sig .tc := ⟨.hbm, 58, rfl⟩
abbrev main_call6_v1 : Ref sig .tc := ⟨.hbm, 59, rfl⟩
abbrev main_v22 : Ref sig .tc := ⟨.hbm, 60, rfl⟩
abbrev main_cst_17 : Ref sig .tc := ⟨.hbm, 61, rfl⟩
abbrev main_cst_18 : Ref sig .tc := ⟨.hbm, 62, rfl⟩
abbrev main_call7_v0 : Ref sig .tc := ⟨.hbm, 63, rfl⟩
abbrev main_call7_v1 : Ref sig .tc := ⟨.hbm, 64, rfl⟩
abbrev main_v23 : Ref sig .tc := ⟨.hbm, 65, rfl⟩
abbrev main_c_19 : Ref sig .tc := ⟨.hbm, 66, rfl⟩
abbrev main_v24 : Ref sig .tc := ⟨.hbm, 67, rfl⟩
abbrev main_v25 : Ref sig .tc := ⟨.hbm, 68, rfl⟩
abbrev main_c_20 : Ref sig .tc := ⟨.hbm, 69, rfl⟩
abbrev main_v26 : Ref sig .tc := ⟨.hbm, 70, rfl⟩
abbrev main_v27 : Ref sig .tc := ⟨.hbm, 71, rfl⟩
abbrev main_c_21 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_c_22 : Ref sig .tc := ⟨.hbm, 79, rfl⟩
abbrev main_v34 : Ref sig .tc := ⟨.hbm, 80, rfl⟩
abbrev main_v35 : Ref sig .tc := ⟨.hbm, 81, rfl⟩
abbrev main_c_23 : Ref sig .tc := ⟨.hbm, 82, rfl⟩
abbrev main_v36 : Ref sig .tc := ⟨.hbm, 83, rfl⟩
abbrev main_v37 : Ref sig .tc := ⟨.hbm, 84, rfl⟩
abbrev main_c_24 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_c_25 : Ref sig .tc := ⟨.hbm, 90, rfl⟩
abbrev main_v42 : Ref sig .tc := ⟨.hbm, 91, rfl⟩
abbrev main_v43 : Ref sig .tc := ⟨.hbm, 92, rfl⟩
abbrev main_c_26 : Ref sig .tc := ⟨.hbm, 93, rfl⟩
abbrev main_v44 : Ref sig .tc := ⟨.hbm, 94, rfl⟩
abbrev main_v45 : Ref sig .tc := ⟨.hbm, 95, rfl⟩
abbrev main_c_27 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_cst_28 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩

abbrev nD : Nat := 1
abbrev τ : Topo := Topo.v7x

variable {F : FTy → Type} [FloatOps F]
-- ==== Proof.KernelFrame.lean ====
/-
  The frame of the kernel, at any float values: every run terminates, leaves the argument arrays unchanged and ends with
  every semaphore counter at zero. Nothing is said of what the output and the scratch hold, so both are carried at some
  contents.
-/
module

public import proofs.«01_k».proof.Proof.Gen.Kernel.Frame
public import proofs.«01_k».proof.Proof.Gen.Kernel.Skeleton
public import proofs.«01_k».proof.Proof.Gen.Kernel.Loops
public import Idealize.ShloMosaic.Lib.Claim

@[expose] public section

set_option maxRecDepth 16384

noncomputable section

namespace Cert.KernelFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The buffers the lines after the region WRITE, as references: the result, of which nothing is stated. -/
def T0 : Finset (Ref sig .tc) := {main_v2}
/-- They write nothing else. -/
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- From a run that says nothing of the output window, the argument arrays end unchanged: a staged input as the run found it,
    and `main_arg0`, which no window stages, because neither the region nor the lines after it write it. -/
theorem unchanged_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Finset.mem_sdiff.mpr ⟨Pipeline.mem_restRefs_of main_arg0 (by decide) (by decide), by decide⟩)).trans (V_main_arg0 m c),
      (Pipeline.RDat.FramePostR.arr_in h c 1 rfl).trans ((hA c 1).trans (V_main_arg1 m c)),
      (Pipeline.RDat.FramePostR.arr_in h c 2 rfl).trans ((hA c 2).trans (V_main_arg2 m c)),
      (Pipeline.RDat.FramePostR.arr_in h c 3 rfl).trans ((hA c 3).trans (V_main_arg3 m c)),
      (Pipeline.RDat.FramePostR.arr_in h c 4 rfl).trans ((hA c 4).trans (V_main_arg4 m c))⟩) h

/-! ## The body's branch conditions -/

/-- The condition of the body's `scf.if` 0 (`k0_h1`), from the grid coordinates (the skeleton's scalar
    chain substituted). -/
abbrev cond0_0 (i : grid0.Coords) : Prop := k0_cond1 i = 1#1

/-! ## The memrefs the body is called on -/

/-- Each window's current staging memref at point `t`, spelled as the pipeline passes it (`bodyAt0`), and its wholeness. -/
abbrev ms0_0 (t : Fin cfg0.N) : Memref sig .tc .vmem S256x5120 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2560x640 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S80x640 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S5120x16 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x640 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x640 .bf16 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S5120x656 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

set_option maxHeartbeats 1600000 in
/-- The body on whole staging memrefs, at any point: the inputs' at their contents, the output block and the scratch at anything;
    it runs and hands back the inputs' as they were, the output block and the scratch at some contents. In both cases of its
    one conditional. -/
theorem body_run (c : Dev nD) (i : grid0.Coords) (arg1 : Memref sig .tc .vmem S256x5120 .bf16) (harg1 : arg1.IsWhole) (arg2 : Memref sig .tc .vmem S2560x640 .i8) (harg2 : arg2.IsWhole) (arg3 : Memref sig .tc .vmem S80x640 .f32) (harg3 : arg3.IsWhole) (arg4 : Memref sig .tc .vmem S5120x16 .bf16) (harg4 : arg4.IsWhole) (arg5 : Memref sig .tc .vmem S16x640 .bf16) (harg5 : arg5.IsWhole) (arg6 : Memref sig .tc .vmem S256x640 .bf16) (harg6 : arg6.IsWhole) (arg7 : Memref sig .tc .vmem S5120x656 .bf16) (harg7 : arg7.IsWhole)
    (x0 : Vec F S256x5120 .bf16) (x1 : Vec F S2560x640 .i8) (x2 : Vec F S80x640 .f32) (x3 : Vec F S5120x16 .bf16) (x4 : Vec F S16x640 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)) -∗ K ⟨⟩))
          ⊢ wp frame (wpE (defs₀ (F := F)) Variants.none c none) E (cc0__body i arg1 harg1 arg2 harg2 arg3 harg3 arg4 harg4 arg5 harg5 arg6 harg6 arg7 harg7) K := by
    intro E K
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    by_cases hc0 : cond0_0 i
    all_goals
      sl_exec (disch := first | sl_exact hc0)
      sl_step
      iapply Hk
      isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      isplitl [H5]
      · iexists _, _; isplitr; swap; · iexact H5
        ipureintro; rfl
      iexists _, _; isplitr; swap; · iexact HS0
      ipureintro; rfl

/-! ## The pipeline's proof data -/

/-- The output windows this certificate FORGETS (5): nothing reads what the kernel leaves in them, so nothing
    of it is named (Lib/Pipeline/Dat.lean `Dat.toRForget`). -/
def forgets0 : Fin 6 → Bool := fun w => w.val == 5

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- Window 1's. -/
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ d, owns (c : Thread nD τ) (ms0_5 t) fullShare d))

set_option maxHeartbeats 800000 in
/-- The body at any point: the inputs' memrefs hold their blocks, so the run applies; the invariant hands the body its scratch at
    some contents and takes it back at some contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩⟩
  iapply ((body_run c (grid0.coords t) _ _ _ _ _ _ _ _ _ _ _ _ _ _ (iblk m c 0 t) (iblk m c 1 t) (iblk m c 2 t) (iblk m c 3 t) (iblk m c 4 t)) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  iintro ⟨H0, H1, H2, H3, H4, H5, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  iexact H5
/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (window 5) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  unchanged_of m ρ (fun c => (dats m 0 c).toRForget forgets0) (A_eq m) (run_main m ρ)

/-- THE FRAME: every run ends with the argument arrays unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelFrame

end
-- ==== Proof.Nf4.lean ====
/-
  The dequantised weight matrix, entry by entry, and what the kernel's unpacking computes of one packed block.

  A packed byte holds two 4-bit codes: row `2p` of the weights has the low half of byte row `p`, row `2p+1` the high
  half. A code is looked up in the 16-entry NF4 table by its four bits, and the value is multiplied by its block's
  scale (64 rows to a block).
-/
module

public import proofs.«01_k».proof.Proof.Gen.KernelIdeal.Skeleton
public import Idealize.ShloMosaic.Lib.Pointwise
public import Idealize.ShloMosaic.Lib.BitcastPair

@[expose] public section

set_option maxRecDepth 16384

noncomputable section

namespace Cert.Nf4

open Idealize.ShloMosaic

/-- Bit `n` of a byte, as a one-bit word. -/
def bit (p : BitVec 8) (n : Nat) : BitVec 1 := BitVec.ofBool (p.getLsbD n)

/-- The NF4 table at the code whose bits, high to low, are `b3 b2 b1 b0`: the table's sixteen bfloat16 constants,
    chosen bit by bit. -/
def table (b3 b2 b1 b0 : BitVec 1) : EReal :=
  Scalar.select b3
    (Scalar.select b2
      (Scalar.select b1
        (Scalar.select b0 (Ideal.ofBits FTy.bf16 0x3F80#16) (Ideal.ofBits FTy.bf16 0x3F39#16))
        (Scalar.select b0 (Ideal.ofBits FTy.bf16 0x3F10#16) (Ideal.ofBits FTy.bf16 0x3EE2#16)))
      (Scalar.select b1
        (Scalar.select b0 (Ideal.ofBits FTy.bf16 0x3EAD#16) (Ideal.ofBits FTy.bf16 0x3E7C#16))
        (Scalar.select b0 (Ideal.ofBits FTy.bf16 0x3E25#16) (Ideal.ofBits FTy.bf16 0x3DA3#16))))
    (Scalar.select b2
      (Scalar.select b1
        (Scalar.select b0 (Ideal.ofBits FTy.bf16 0x0000#16) (Ideal.ofBits FTy.bf16 0xBDBA#16))
        (Scalar.select b0 (Ideal.ofBits FTy.bf16 0xBE3D#16) (Ideal.ofBits FTy.bf16 0xBE92#16)))
      (Scalar.select b1
        (Scalar.select b0 (Ideal.ofBits FTy.bf16 0xBECA#16) (Ideal.ofBits FTy.bf16 0xBF06#16))
        (Scalar.select b0 (Ideal.ofBits FTy.bf16 0xBF32#16) (Ideal.ofBits FTy.bf16 0xBF80#16))))

/-- The table at half `h` (0 low, 1 high) of a packed byte. -/
def entry (p : BitVec 8) (h : Nat) : EReal :=
  table (bit p (4 * h + 3)) (bit p (4 * h + 2)) (bit p (4 * h + 1)) (bit p (4 * h))

/-! ## The kernel's code words -/

/-- The word the kernel forms of a byte: the low code in its low half, the high code in its high half. -/
def word (p : BitVec 8) : BitVec 32 := (p.setWidth 32 ||| p.setWidth 32 <<< 12) &&& 983055#32

/-- Testing bit `n` of half `h` of the word (masks 1, 2, 4, 8) is testing bit `4h + n` of the byte. -/
theorem word_bit : ∀ (p : BitVec 8) (h : Fin 2),
    IntOp.cmpi CmpIPredicate.ne (IntOp.andi ((word p).extractLsb' (16 * h.val) 16) 1#16) 0#16 = bit p (4 * h.val)
    ∧ IntOp.cmpi CmpIPredicate.ne (IntOp.andi ((word p).extractLsb' (16 * h.val) 16) 2#16) 0#16 = bit p (4 * h.val + 1)
    ∧ IntOp.cmpi CmpIPredicate.ne (IntOp.andi ((word p).extractLsb' (16 * h.val) 16) 4#16) 0#16 = bit p (4 * h.val + 2)
    ∧ IntOp.cmpi CmpIPredicate.ne (IntOp.andi ((word p).extractLsb' (16 * h.val) 16) 8#16) 0#16 = bit p (4 * h.val + 3) := by
  decide +kernel

open Cert.KernelIdeal Cert.KernelIdeal.Gen

/-- The code word at row `R` of an unpacked block: half `R % 2` of the word of byte row `R / 2`. -/
theorem pay6_at (v : Vec Ideal S256x640 .i8) (R : Fin 512) (b : Fin 640) :
    k0_pay6 (F := Ideal) v (ix2 R b)
      = (word (v (ix2 ⟨R.val / 2, by omega⟩ b))).extractLsb' (16 * (R.val % 2)) 16 := by
  unfold k0_pay6
  rw [bitcast_32_16]
  have e : (bitcasts_S256x640_w32_S512x640_w16).srcIdx (ix2 R b) (S512x640.row (ix2 R b) / 2)
      (fun a ha => by have := (bitcasts_S256x640_w32_S512x640_w16).pos_lt (ix2 R b) 0 (by decide) a ha; omega)
      = (ix2 ⟨R.val / 2, by omega⟩ b : S256x640.Idx) := by
    funext a; apply Fin.ext; match a with | ⟨0, _⟩ => rfl | ⟨1, _⟩ => rfl
  rw [e]
  rfl

/-- The looked-up value at row `R` of an unpacked block. -/
theorem pay18_at (v : Vec Ideal S256x640 .i8) (R : Fin 512) (b : Fin 640) :
    k0_pay18 (F := Ideal) (k0_pay6 v) k0_pay7 k0_pay8 k0_pay9 k0_pay10 (k0_pay11 v) (k0_pay12 v) (k0_pay13 v)
        (k0_pay14 v) (k0_pay15 v) (k0_pay16 v) (k0_pay17 v) (ix2 R b)
      = entry (v (ix2 ⟨R.val / 2, by omega⟩ b)) (R.val % 2) := by
  obtain ⟨h0, h1, h2, h3⟩ := word_bit (v (ix2 ⟨R.val / 2, by omega⟩ b)) ⟨R.val % 2, by omega⟩
  dsimp only at h0 h1 h2 h3
  rw [← pay6_at] at h0 h1 h2 h3
  unfold entry table
  rw [← h0, ← h1, ← h2, ← h3]
  pointwise [k0_pay7, k0_pay8, k0_pay9, k0_pay10, k0_pay11, k0_pay12, k0_pay13, k0_pay14, k0_pay15, k0_pay16, k0_pay17, k0_pay18]

/-! ## The eight pieces of a block -/

section Pieces

variable (v79 : FVec Ideal S512x640 .bf16) (v84 : FVec Ideal S8x640 .bf16) (a : Fin 64) (b : Fin 640)

/-- Piece `j` of an unpacked block is its rows `64j` to `64j + 63`, each times scale row `j`. -/
theorem pay23_at : k0_pay23 (F := Ideal) v79 v84 (ix2 a b) = v79 (ix2 ⟨128 + a.val, by omega⟩ b) * v84 (ix2 2 b) := by
  pointwise [k0_pay23]
theorem pay24_at : k0_pay24 (F := Ideal) v79 v84 (ix2 a b) = v79 (ix2 ⟨192 + a.val, by omega⟩ b) * v84 (ix2 3 b) := by
  pointwise [k0_pay24]
theorem pay25_at : k0_pay25 (F := Ideal) v79 v84 (ix2 a b) = v79 (ix2 ⟨256 + a.val, by omega⟩ b) * v84 (ix2 4 b) := by
  pointwise [k0_pay25]
theorem pay26_at : k0_pay2 (F := Ideal) (k0_pay26 v79 v84) (ix2 a b) = v79 (ix2 ⟨320 + a.val, by omega⟩ b) * v84 (ix2 5 b) := by
  pointwise [k0_pay2, k0_pay26]
theorem pay3_at : k0_pay3 (F := Ideal) v79 v84 (ix2 a b) = v79 (ix2 ⟨384 + a.val, by omega⟩ b) * v84 (ix2 6 b) := by
  pointwise [k0_pay3]
theorem pay4_at : k0_pay4 (F := Ideal) v79 v84 (ix2 a b) = v79 (ix2 ⟨448 + a.val, by omega⟩ b) * v84 (ix2 7 b) := by
  pointwise [k0_pay4]

end Pieces

/-- The first two pieces, over the values they are computed from. -/
theorem pay20_at (v32 : IVec S512x640 16) (v45 v46 v47 v48 : FVec Ideal S512x640 .bf16) (v52 : IVec S512x640 1)
    (v53 v54 v55 v56 v57 v58 : FVec Ideal S512x640 .bf16) (z : Vec Ideal S8x640 .f32) (a : Fin 64) (b : Fin 640) :
    k0_pay20 (F := Ideal) v32 v45 v46 v47 v48 v52 v53 v54 v55 v56 v57 v58 z (ix2 a b)
      = k0_pay18 v32 v45 v46 v47 v48 v52 v53 v54 v55 v56 v57 v58 (ix2 ⟨0 + a.val, by omega⟩ b) * z (ix2 0 b) := by
  unfold k0_pay20 k0_pay19
  generalize k0_pay18 v32 v45 v46 v47 v48 v52 v53 v54 v55 v56 v57 v58 = w
  rw [show (⟨0 + a.val, by omega⟩ : Fin 512) = ⟨a.val, by omega⟩ from Fin.ext (Nat.zero_add _)]
  pointwise
theorem pay21_at (v32 : IVec S512x640 16) (v45 v46 v47 v48 : FVec Ideal S512x640 .bf16) (v52 : IVec S512x640 1)
    (v53 v54 v55 v56 v57 v58 : FVec Ideal S512x640 .bf16) (z : Vec Ideal S8x640 .f32) (a : Fin 64) (b : Fin 640) :
    k0_pay22 (F := Ideal) (k0_pay21 v32 v45 v46 v47 v48 v52 v53 v54 v55 v56 v57 v58 z) (ix2 a b)
      = k0_pay18 v32 v45 v46 v47 v48 v52 v53 v54 v55 v56 v57 v58 (ix2 ⟨64 + a.val, by omega⟩ b) * z (ix2 1 b) := by
  unfold k0_pay22 k0_pay21 k0_pay19
  generalize k0_pay18 v32 v45 v46 v47 v48 v52 v53 v54 v55 v56 v57 v58 = w
  pointwise

/-- The rounding of the scales is the identity on exact values. -/
theorem pay19_at (z : Vec Ideal S8x640 .f32) (j : S8x640.Idx) : k0_pay19 (F := Ideal) z j = z j := by
  pointwise [k0_pay19]

/-! ## The whole matrix -/

/-- The dequantised weight at row `r`, column `c`. -/
def weight (x1 : Vec Ideal S2560x640 .i8) (x2 : Vec Ideal S80x640 .f32) (r : Fin 5120) (c : Fin 640) : EReal :=
  entry (x1 (ix2 ⟨r.val / 2, by omega⟩ c)) (r.val % 2) * x2 (ix2 ⟨r.val / 64, by omega⟩ c)

/-- What the kernel's scratch holds once filled: the dequantised weights in columns 0 to 639, the adapter's first
    factor in columns 640 to 655. -/
def filled (x1 : Vec Ideal S2560x640 .i8) (x2 : Vec Ideal S80x640 .f32) (x3 : Vec Ideal S5120x16 .bf16) :
    Vec Ideal S5120x656 .bf16 := fun y =>
  if h : (y 1).val < 640 then weight x1 x2 (y 0) ⟨(y 1).val, h⟩
  else x3 (ix2 (y 0) ⟨(y 1).val - 640, by have : (y 1).val < 656 := (y 1).isLt; omega⟩)

end Cert.Nf4

end
-- ==== Proof.Fill.lean ====
/-
  The kernel's filling of its scratch: ten trips of eight stores, each of 64 rows of the dequantised weights, beside
  the adapter's first factor in the last sixteen columns. Whatever the scratch held before, it ends at `Nf4.filled`.
-/
module

public import proofs.«01_k».proof.Proof.Gen.KernelIdeal.Loops
public import proofs.«01_k».proof.Proof.Nf4
public import Idealize.ShloMosaic.Lib.Pipeline.ValueKit

@[expose] public section

set_option maxRecDepth 16384

noncomputable section

namespace Cert.Fill

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Nf4

/-! ## Where a trip loads and stores -/

theorem trips_lt (k : Fin k0_t1_loop.trips) : k.val < 10 := Nat.lt_of_lt_of_le k.isLt k0_t1_abs.2.1

theorem off1_eq : ∀ k : Fin k0_t1_loop.trips, k0_off1 k 0 = 256 * k.val ∧ k0_off1 k 1 = 0 := by decide +kernel
theorem off2_eq : ∀ k : Fin k0_t1_loop.trips, k0_off2 k 0 = 8 * k.val ∧ k0_off2 k 1 = 0 := by decide +kernel
theorem off3_eq : ∀ (k : Fin k0_t1_loop.trips) (j : Fin 8),
    k0_off3 k (BitVec.ofNat 32 (64 * j.val)) 0 = 512 * k.val + 64 * j.val ∧ k0_off3 k (BitVec.ofNat 32 (64 * j.val)) 1 = 0 := by
  decide +kernel

section Blocks

variable (x1 : Vec Ideal S2560x640 .i8) (x2 : Vec Ideal S80x640 .f32) (x3 : Vec Ideal S5120x16 .bf16)

/-- The packed block a trip loads, at an entry. -/
theorem codes_at (k : Fin k0_t1_loop.trips) (inb) (p : Fin 256) (b : Fin 640) :
    View.ld x1 (Rect.unit (s := S2560x640) (k0_off1 k) S256x640.size inb) (ix2 p b)
      = x1 (ix2 ⟨256 * k.val + p.val, by have := trips_lt k; omega⟩ b) := by
  refine congrArg x1 ?_
  funext a; apply Fin.ext
  match a with
  | ⟨0, _⟩ => show k0_off1 k 0 + 1 * p.val = _; rw [(off1_eq k).1]; show _ = 256 * k.val + p.val; omega
  | ⟨1, _⟩ => show k0_off1 k 1 + 1 * b.val = _; rw [(off1_eq k).2]; show _ = b.val; omega

/-- The block of scales a trip loads, at an entry. -/
theorem scales_at (k : Fin k0_t1_loop.trips) (inb) (p : Fin 8) (b : Fin 640) :
    View.ld x2 (Rect.unit (s := S80x640) (k0_off2 k) S8x640.size inb) (ix2 p b)
      = x2 (ix2 ⟨8 * k.val + p.val, by have := trips_lt k; omega⟩ b) := by
  refine congrArg x2 ?_
  funext a; apply Fin.ext
  match a with
  | ⟨0, _⟩ => show k0_off2 k 0 + 1 * p.val = _; rw [(off2_eq k).1]; show _ = 8 * k.val + p.val; omega
  | ⟨1, _⟩ => show k0_off2 k 1 + 1 * b.val = _; rw [(off2_eq k).2]; show _ = b.val; omega

/-- A stored piece that is the looked-up codes times their scale row is `filled` where it is stored. -/
theorem piece_eq (k : Fin k0_t1_loop.trips) (j : Fin 8) (inb)
    (inb1) (inb2) (w : S64x640.Idx → EReal) (a : Fin 64) (b : Fin 640)
    (hw : w (ix2 a b)
      = entry (View.ld x1 (Rect.unit (s := S2560x640) (k0_off1 k) S256x640.size inb1) (ix2 ⟨(64 * j.val + a.val) / 2, by omega⟩ b)) ((64 * j.val + a.val) % 2)
        * View.ld x2 (Rect.unit (s := S80x640) (k0_off2 k) S8x640.size inb2) (ix2 j b)) :
    w (ix2 a b) = filled x1 x2 x3
      ((Rect.unit (s := S5120x656) (k0_off3 k (BitVec.ofNat 32 (64 * j.val))) S64x640.size inb).emb (ix2 a b)) := by
  have hk := trips_lt k
  have e : (Rect.unit (s := S5120x656) (k0_off3 k (BitVec.ofNat 32 (64 * j.val))) S64x640.size inb).emb (ix2 a b)
      = (ix2 ⟨512 * k.val + 64 * j.val + a.val, by omega⟩ ⟨b.val, by omega⟩ : S5120x656.Idx) := by
    funext i; apply Fin.ext
    match i with
    | ⟨0, _⟩ => show k0_off3 k (BitVec.ofNat 32 (64 * j.val)) 0 + 1 * a.val = 512 * k.val + 64 * j.val + a.val; rw [(off3_eq k j).1]; omega
    | ⟨1, _⟩ => show k0_off3 k (BitVec.ofNat 32 (64 * j.val)) 1 + 1 * b.val = b.val; rw [(off3_eq k j).2]; omega
  rw [e, hw, codes_at, scales_at]
  unfold filled
  rw [dif_pos (show ((ix2 (⟨512 * k.val + 64 * j.val + a.val, by omega⟩ : Fin 5120) (⟨b.val, by omega⟩ : Fin 656) : S5120x656.Idx) 1).val < 640 from b.isLt)]
  unfold weight
  congr 2
  · congr 2
    apply Fin.ext
    show 256 * k.val + (64 * j.val + a.val) / 2 = (512 * k.val + 64 * j.val + a.val) / 2
    omega
  · show (64 * j.val + a.val) % 2 = (512 * k.val + 64 * j.val + a.val) % 2
    omega
  · congr 1
    apply Fin.ext
    show 8 * k.val + j.val = (512 * k.val + 64 * j.val + a.val) / 64
    omega

/-- A place in the rows of piece `j` of trip `k`, left of column 640, is in the piece's rectangle. -/
theorem piece_mem (k : Fin k0_t1_loop.trips) (j : Fin 8) (inb) (y : S5120x656.Idx) (h0 : (y 0).val / 64 = 8 * k.val + j.val)
    (h1 : (y 1).val < 640) :
    y ∈ (Rect.unit (s := S5120x656) (k0_off3 k (BitVec.ofNat 32 (64 * j.val))) S64x640.size inb).set := by
  have e : (Rect.unit (s := S5120x656) (k0_off3 k (BitVec.ofNat 32 (64 * j.val))) S64x640.size inb).emb
      (ix2 (⟨(y 0).val % 64, by omega⟩ : Fin 64) (⟨(y 1).val, h1⟩ : Fin 640)) = y := by
    funext i; apply Fin.ext
    match i with
    | ⟨0, _⟩ => show k0_off3 k (BitVec.ofNat 32 (64 * j.val)) 0 + 1 * ((y 0).val % 64) = (y 0).val; rw [(off3_eq k j).1]; omega
    | ⟨1, _⟩ => show k0_off3 k (BitVec.ofNat 32 (64 * j.val)) 1 + 1 * (y 1).val = (y 1).val; rw [(off3_eq k j).2]; omega
  rw [← e, ← Rect.map_emb_univ]
  exact Finset.mem_map_of_mem _ (Finset.mem_univ _)

/-- A place of a piece is left of column 640. -/
theorem piece_col (k : Fin k0_t1_loop.trips) (j : Fin 8) (inb) (y : S5120x656.Idx)
    (hy : y ∈ (Rect.unit (s := S5120x656) (k0_off3 k (BitVec.ofNat 32 (64 * j.val))) S64x640.size inb).set) : (y 1).val < 640 := by
  obtain ⟨x, rfl⟩ := (show ∃ x, (Rect.unit (s := S5120x656) (k0_off3 k (BitVec.ofNat 32 (64 * j.val))) S64x640.size inb).emb x = y from
    LoadRect.exists_idx_of_mem _ hy)
  have : (x 1).val < 640 := (x 1).isLt
  show k0_off3 k (BitVec.ofNat 32 (64 * j.val)) 1 + 1 * (x 1).val < 640
  rw [(off3_eq k j).2]; omega

end Blocks

/-! ## A trip's eight pieces -/

section Trips

variable (𝒱 : Variants) (c : Dev nD) (bd : Option 𝒱.V) (i : grid0.Coords) (arg1 : Memref sig .tc .vmem S256x5120 .bf16) (harg1 : arg1.IsWhole) (arg2 : Memref sig .tc .vmem S2560x640 .i8) (harg2 : arg2.IsWhole) (arg3 : Memref sig .tc .vmem S80x640 .f32) (harg3 : arg3.IsWhole) (arg4 : Memref sig .tc .vmem S5120x16 .bf16) (harg4 : arg4.IsWhole) (arg5 : Memref sig .tc .vmem S16x640 .bf16) (harg5 : arg5.IsWhole) (arg6 : Memref sig .tc .vmem S256x640 .bf16) (harg6 : arg6.IsWhole) (arg7 : Memref sig .tc .vmem S5120x656 .bf16) (harg7 : arg7.IsWhole) (k0_h1 : k0_cond1 i = 1#1)
variable (x1 : Vec Ideal S2560x640 .i8) (x2 : Vec Ideal S80x640 .f32) (x3 : Vec Ideal S5120x16 .bf16)

/-- The pieces of trip `k`, the block and the scales it loads being `x1`'s and `x2`'s. -/
abbrev tripPieces (k : Fin k0_t1_loop.trips) : List (View.Piece (Elt Ideal) S5120x656 .bf16) :=
  tripL_k0_t1 (F := Ideal) 𝒱 c bd i arg1 harg1 arg2 harg2 arg3 harg3 arg4 harg4 arg5 harg5 arg6 harg6 arg7 harg7 k0_h1
    (harg2.unread x1) (harg3.unread x2) k

/-- What is needed of a trip: each piece is `filled` where it is stored, stores left of column 640 only, and the
    pieces hold every place of the trip's 512 rows left of column 640. -/
theorem trip_ok (k : Fin k0_t1_loop.trips) :
    (∀ p ∈ tripPieces 𝒱 c bd i arg1 harg1 arg2 harg2 arg3 harg3 arg4 harg4 arg5 harg5 arg6 harg6 arg7 harg7 k0_h1 x1 x2 k,
      (∀ x : p.1.shape.Idx, p.2 x = filled x1 x2 x3 (p.1.emb x)) ∧ ∀ y : S5120x656.Idx, y ∈ p.1.set → (y 1).val < 640)
    ∧ ∀ y : S5120x656.Idx, (y 0).val / 512 = k.val → (y 1).val < 640 →
      ∃ p ∈ tripPieces 𝒱 c bd i arg1 harg1 arg2 harg2 arg3 harg3 arg4 harg4 arg5 harg5 arg6 harg6 arg7 harg7 k0_h1 x1 x2 k, y ∈ p.1.set := by
  unfold tripPieces tripL_k0_t1 trip_k0_t1
  dsimp only
  frame_out
  refine ⟨?_, fun y h0 h1 => ?_⟩
  · simp only [List.forall_mem_cons]
    refine ⟨⟨fun x => ?_, piece_col k 7 _⟩,
      ⟨fun x => ?_, piece_col k 6 _⟩,
      ⟨fun x => ?_, piece_col k 5 _⟩,
      ⟨fun x => ?_, piece_col k 4 _⟩,
      ⟨fun x => ?_, piece_col k 3 _⟩,
      ⟨fun x => ?_, piece_col k 2 _⟩,
      ⟨fun x => ?_, piece_col k 1 _⟩,
      ⟨fun x => ?_, piece_col k 0 _⟩, ?_⟩
    · obtain ⟨a, b, rfl⟩ : ∃ (a : Fin 64) (b : Fin 640), x = ix2 a b := ⟨x 0, x 1, eq_ix2 x⟩
      exact piece_eq x1 x2 x3 k 7 _ _ _ _ a b (by rw [pay4_at, pay18_at, pay19_at]; rfl)
    · obtain ⟨a, b, rfl⟩ : ∃ (a : Fin 64) (b : Fin 640), x = ix2 a b := ⟨x 0, x 1, eq_ix2 x⟩
      exact piece_eq x1 x2 x3 k 6 _ _ _ _ a b (by rw [pay3_at, pay18_at, pay19_at]; rfl)
    · obtain ⟨a, b, rfl⟩ : ∃ (a : Fin 64) (b : Fin 640), x = ix2 a b := ⟨x 0, x 1, eq_ix2 x⟩
      exact piece_eq x1 x2 x3 k 5 _ _ _ _ a b (by rw [pay26_at, pay18_at, pay19_at]; rfl)
    · obtain ⟨a, b, rfl⟩ : ∃ (a : Fin 64) (b : Fin 640), x = ix2 a b := ⟨x 0, x 1, eq_ix2 x⟩
      exact piece_eq x1 x2 x3 k 4 _ _ _ _ a b (by rw [pay25_at, pay18_at, pay19_at]; rfl)
    · obtain ⟨a, b, rfl⟩ : ∃ (a : Fin 64) (b : Fin 640), x = ix2 a b := ⟨x 0, x 1, eq_ix2 x⟩
      exact piece_eq x1 x2 x3 k 3 _ _ _ _ a b (by rw [pay24_at, pay18_at, pay19_at]; rfl)
    · obtain ⟨a, b, rfl⟩ : ∃ (a : Fin 64) (b : Fin 640), x = ix2 a b := ⟨x 0, x 1, eq_ix2 x⟩
      exact piece_eq x1 x2 x3 k 2 _ _ _ _ a b (by rw [pay23_at, pay18_at, pay19_at]; rfl)
    · obtain ⟨a, b, rfl⟩ : ∃ (a : Fin 64) (b : Fin 640), x = ix2 a b := ⟨x 0, x 1, eq_ix2 x⟩
      exact piece_eq x1 x2 x3 k 1 _ _ _ _ a b (by rw [pay21_at, pay18_at]; rfl)
    · obtain ⟨a, b, rfl⟩ : ∃ (a : Fin 64) (b : Fin 640), x = ix2 a b := ⟨x 0, x 1, eq_ix2 x⟩
      exact piece_eq x1 x2 x3 k 0 _ _ _ _ a b (by rw [pay20_at, pay18_at]; rfl)
    · exact fun _ h => absurd h List.not_mem_nil
  · have hj : (y 0).val / 64 = 8 * k.val + 0 ∨ (y 0).val / 64 = 8 * k.val + 1 ∨ (y 0).val / 64 = 8 * k.val + 2 ∨ (y 0).val / 64 = 8 * k.val + 3 ∨ (y 0).val / 64 = 8 * k.val + 4 ∨ (y 0).val / 64 = 8 * k.val + 5 ∨ (y 0).val / 64 = 8 * k.val + 6 ∨ (y 0).val / 64 = 8 * k.val + 7 := by omega
    simp only [List.exists_mem_cons_iff]
    rcases hj with h | h | h | h | h | h | h | h
    · exact Or.inr (Or.inr (Or.inr (Or.inr (Or.inr (Or.inr (Or.inr (Or.inl (piece_mem k 0 _ y h h1))))))))
    · exact Or.inr (Or.inr (Or.inr (Or.inr (Or.inr (Or.inr (Or.inl (piece_mem k 1 _ y h h1)))))))
    · exact Or.inr (Or.inr (Or.inr (Or.inr (Or.inr (Or.inl (piece_mem k 2 _ y h h1))))))
    · exact Or.inr (Or.inr (Or.inr (Or.inr (Or.inl (piece_mem k 3 _ y h h1)))))
    · exact Or.inr (Or.inr (Or.inr (Or.inl (piece_mem k 4 _ y h h1))))
    · exact Or.inr (Or.inr (Or.inl (piece_mem k 5 _ y h h1)))
    · exact Or.inr (Or.inl (piece_mem k 6 _ y h h1))
    · exact Or.inl (piece_mem k 7 _ y h h1)

/-- The pieces of the trips before `n`. -/
abbrev loopPieces (n : ℕ) : List (View.Piece (Elt Ideal) S5120x656 .bf16) :=
  pb_k0_t1 (F := Ideal) 𝒱 c bd i arg1 harg1 arg2 harg2 arg3 harg3 arg4 harg4 arg5 harg5 arg6 harg6 arg7 harg7 k0_h1
    (harg2.unread x1) (harg3.unread x2) n

/-- The trips before `n` together: what `trip_ok` says of one, over the first `512 n` rows. -/
theorem loop_ok : ∀ n : ℕ, n ≤ k0_t1_loop.trips →
    (∀ p ∈ loopPieces 𝒱 c bd i arg1 harg1 arg2 harg2 arg3 harg3 arg4 harg4 arg5 harg5 arg6 harg6 arg7 harg7 k0_h1 x1 x2 n,
      (∀ x : p.1.shape.Idx, p.2 x = filled x1 x2 x3 (p.1.emb x)) ∧ ∀ y : S5120x656.Idx, y ∈ p.1.set → (y 1).val < 640)
    ∧ ∀ y : S5120x656.Idx, (y 0).val < 512 * n → (y 1).val < 640 →
      ∃ p ∈ loopPieces 𝒱 c bd i arg1 harg1 arg2 harg2 arg3 harg3 arg4 harg4 arg5 harg5 arg6 harg6 arg7 harg7 k0_h1 x1 x2 n, y ∈ p.1.set
  | 0, _ => ⟨fun p hp => absurd hp List.not_mem_nil, fun y h _ => absurd h (by omega)⟩
  | n + 1, hn => by
      obtain ⟨ih1, ih2⟩ := loop_ok n (by omega)
      obtain ⟨t1, t2⟩ := trip_ok 𝒱 c bd i arg1 harg1 arg2 harg2 arg3 harg3 arg4 harg4 arg5 harg5 arg6 harg6 arg7 harg7 k0_h1 x1 x2 x3 ⟨n, hn⟩
      have e : loopPieces 𝒱 c bd i arg1 harg1 arg2 harg2 arg3 harg3 arg4 harg4 arg5 harg5 arg6 harg6 arg7 harg7 k0_h1 x1 x2 (n + 1)
          = tripPieces 𝒱 c bd i arg1 harg1 arg2 harg2 arg3 harg3 arg4 harg4 arg5 harg5 arg6 harg6 arg7 harg7 k0_h1 x1 x2 ⟨n, hn⟩ ++ loopPieces 𝒱 c bd i arg1 harg1 arg2 harg2 arg3 harg3 arg4 harg4 arg5 harg5 arg6 harg6 arg7 harg7 k0_h1 x1 x2 n :=
        pb_k0_t1_succ (F := Ideal) 𝒱 c bd i arg1 harg1 arg2 harg2 arg3 harg3 arg4 harg4 arg5 harg5 arg6 harg6 arg7 harg7 k0_h1
          (harg2.unread x1) (harg3.unread x2) ⟨n, hn⟩
      rw [e]
      refine ⟨fun p hp => ?_, fun y h0 h1 => ?_⟩
      · rcases List.mem_append.mp hp with hp | hp
        · exact t1 p hp
        · exact ih1 p hp
      · by_cases h : (y 0).val < 512 * n
        · obtain ⟨p, hp, hy⟩ := ih2 y h h1
          exact ⟨p, List.mem_append_right _ hp, hy⟩
        · obtain ⟨p, hp, hy⟩ := t2 y (by show (y 0).val / 512 = n; omega) h1
          exact ⟨p, List.mem_append_left _ hp, hy⟩

/-- THE FILLED SCRATCH: from contents that hold the adapter's factor in the last sixteen columns, the loop's pieces
    leave `filled`. -/
theorem read_loop (G : BufTy.Contents (Elt Ideal) arg7.view.ty)
    (hG : ∀ y : S5120x656.Idx, 640 ≤ (y 1).val → arg7.view.read (Elt Ideal) G y = filled x1 x2 x3 y) :
    arg7.view.read (Elt Ideal) (arg7.view.writes (Elt Ideal) G (loopPieces 𝒱 c bd i arg1 harg1 arg2 harg2 arg3 harg3 arg4 harg4 arg5 harg5 arg6 harg6 arg7 harg7 k0_h1 x1 x2 k0_t1_loop.trips)) = filled x1 x2 x3 := by
  obtain ⟨h1, h2⟩ := loop_ok 𝒱 c bd i arg1 harg1 arg2 harg2 arg3 harg3 arg4 harg4 arg5 harg5 arg6 harg6 arg7 harg7 k0_h1 x1 x2 x3 k0_t1_loop.trips le_rfl
  funext y
  by_cases hy : (y 1).val < 640
  · refine View.read_writes_apply_of_pieces _ _ (filled x1 x2 x3) _ (fun p hp => (h1 p hp).1) y (h2 y ?_ hy)
    have e : k0_t1_loop.trips = 10 := by decide +kernel
    have : (y 0).val < 5120 := (y 0).isLt
    omega
  · rw [View.read_writes_apply_of_forall_not_mem _ _ y _ fun p hp hm => hy ((h1 p hp).2 y hm)]
    exact hG y (by omega)

/-- One store of the adapter's factor gives such contents. -/
theorem read_factor (f : BufTy.Contents (Elt Ideal) arg7.view.ty) (inb) (L : List (View.Piece (Elt Ideal) S5120x656 .bf16))
    (y : S5120x656.Idx) (hy : 640 ≤ (y 1).val) :
    arg7.view.read (Elt Ideal) (arg7.view.writes (Elt Ideal) f
      (⟨Rect.unit (s := S5120x656) ![0, 640] S5120x16.size inb, k0_pay1 (F := Ideal) x3⟩ :: L)) y = filled x1 x2 x3 y := by
  have hlt : (y 1).val < 656 := (y 1).isLt
  rw [View.read_writes_cons_hit_of_coords _ _ _ _ _ (ix2 (y 0) ⟨(y 1).val - 640, by omega⟩ : S5120x16.Idx) y (fun a => by
    match a with
    | ⟨0, _⟩ => show (y 0).val = 0 + 1 * (y 0).val; omega
    | ⟨1, _⟩ => show (y 1).val = 640 + 1 * ((y 1).val - 640); omega)]
  unfold filled
  rw [dif_neg (by omega)]
  pointwise [k0_pay1]

end Trips

end Cert.Fill

end
-- ==== Proof.Body.lean ====
/-
  The kernel body run once, from what its buffers hold to what it leaves in them, in its two cases: the first grid
  point, which fills the scratch, and the later points, which find it filled.
-/
module

public import proofs.«01_k».proof.Proof.Gen.KernelIdeal.Frame
public import proofs.«01_k».proof.Proof.Fill
public import Idealize.ShloMosaic.Lib.VecWindow

@[expose] public section

set_option maxRecDepth 16384

noncomputable section

namespace Cert.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Nf4 Cert.Fill

local notation "𝕄" => MT nD τ sig Unit (Elt Ideal) ℕ (UR sig nD τ) ℕ

/-- The condition of the body's `scf.if` 0, from the grid coordinates. -/
abbrev cond0_0 (i : grid0.Coords) : Prop := k0_cond1 i = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, k0_cond1, e0]
    word_cmp
   : ∀ t : Fin grid0.N, cond0_0 (grid0.coords t) ↔ t.val % 8 = 0)

/-! ## The memrefs the body is called on -/

/-- Each window's current staging memref at point `t`, spelled as the pipeline passes it (`bodyAt0`), and its wholeness. -/
abbrev ms0_0 (t : Fin cfg0.N) : Memref sig .tc .vmem S256x5120 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2560x640 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S80x640 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S5120x16 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x640 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x640 .bf16 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S5120x656 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

set_option maxHeartbeats 1600000 in
/-- THE FIRST POINT: whatever the output block and the scratch hold, the body fills the scratch and leaves in the output block
    the product computed from the filled scratch; the inputs stay. -/
theorem run_first (c : Dev nD) (i : grid0.Coords) (arg1 : Memref sig .tc .vmem S256x5120 .bf16) (harg1 : arg1.IsWhole) (arg2 : Memref sig .tc .vmem S2560x640 .i8) (harg2 : arg2.IsWhole) (arg3 : Memref sig .tc .vmem S80x640 .f32) (harg3 : arg3.IsWhole) (arg4 : Memref sig .tc .vmem S5120x16 .bf16) (harg4 : arg4.IsWhole) (arg5 : Memref sig .tc .vmem S16x640 .bf16) (harg5 : arg5.IsWhole) (arg6 : Memref sig .tc .vmem S256x640 .bf16) (harg6 : arg6.IsWhole) (arg7 : Memref sig .tc .vmem S5120x656 .bf16) (harg7 : arg7.IsWhole) (hc0 : cond0_0 i)
    (x0 : Vec Ideal S256x5120 .bf16) (x1 : Vec Ideal S2560x640 .i8) (x2 : Vec Ideal S80x640 .f32) (x3 : Vec Ideal S5120x16 .bf16) (x4 : Vec Ideal S16x640 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k0_pay5 (F := Ideal) x0 (filled x1 x2 x3) x4) ∗ owns (c : Thread nD τ) arg7 fullShare (filled x1 x2 x3)) -∗ K ⟨⟩))
          ⊢ wp frame (wpE (defs₀ (F := Ideal)) Variants.none c none) E (cc0__body i arg1 harg1 arg2 harg2 arg3 harg3 arg4 harg4 arg5 harg5 arg6 harg6 arg7 harg7) K := by
    intro E K
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    have hw : arg7.view.read (Elt Ideal) (arg7.view.writes (Elt Ideal) fs0 (pb_k0_t1 (F := Ideal) Variants.none c none i arg1 harg1 arg2 harg2 arg3 harg3 arg4 harg4 arg5 harg5 arg6 harg6 arg7 harg7 hc0 (harg2.unread x1) (harg3.unread x2) k0_t1_loop.trips ++ [⟨Rect.unit (s := S5120x656) ![0, 640] S5120x16.size (by decide +kernel), k0_pay1 (F := Ideal) x3⟩])) = filled x1 x2 x3 := by
      rw [View.writes_append]
      exact read_loop Variants.none c none i arg1 harg1 arg2 harg2 arg3 harg3 arg4 harg4 arg5 harg5 arg6 harg6 arg7 harg7 hc0 x1 x2 x3 _ fun y hy => read_factor arg7 x1 x2 x3 fs0 _ [] y hy
    isplitl [H5]
    · iexists _; isplitr; swap
      · iexact H5
      ipureintro
      rw [View.read_writes_full]
      unfold run_first.sl.v5
      rw [View.readAt_full, View.readAt_full, View.readAt_full, View.readAt_full, harg1.read_unread, harg4.read_unread, harg5.read_unread]
      exact congrArg (fun w => k0_pay5 (F := Ideal) x0 w x4) hw
    iexists _; isplitr; swap
    · iexact HS0
    ipureintro
    rw [View.readAt_full, harg4.read_unread]
    exact hw

set_option maxHeartbeats 1600000 in
/-- A LATER POINT: the body leaves in the output block the product computed from what the scratch holds; the scratch and the
    inputs stay. -/
theorem run_later (c : Dev nD) (i : grid0.Coords) (arg1 : Memref sig .tc .vmem S256x5120 .bf16) (harg1 : arg1.IsWhole) (arg2 : Memref sig .tc .vmem S2560x640 .i8) (harg2 : arg2.IsWhole) (arg3 : Memref sig .tc .vmem S80x640 .f32) (harg3 : arg3.IsWhole) (arg4 : Memref sig .tc .vmem S5120x16 .bf16) (harg4 : arg4.IsWhole) (arg5 : Memref sig .tc .vmem S16x640 .bf16) (harg5 : arg5.IsWhole) (arg6 : Memref sig .tc .vmem S256x640 .bf16) (harg6 : arg6.IsWhole) (arg7 : Memref sig .tc .vmem S5120x656 .bf16) (harg7 : arg7.IsWhole) (hc0 : ¬cond0_0 i)
    (x0 : Vec Ideal S256x5120 .bf16) (x1 : Vec Ideal S2560x640 .i8) (x2 : Vec Ideal S80x640 .f32) (x3 : Vec Ideal S5120x16 .bf16) (x4 : Vec Ideal S16x640 .bf16) (w : Vec Ideal S5120x656 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare w
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k0_pay5 (F := Ideal) x0 w x4) ∗ owns (c : Thread nD τ) arg7 fullShare w) -∗ K ⟨⟩))
          ⊢ wp frame (wpE (defs₀ (F := Ideal)) Variants.none c none) E (cc0__body i arg1 harg1 arg2 harg2 arg3 harg3 arg4 harg4 arg5 harg5 arg6 harg6 arg7 harg7) K := by
    intro E K
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap
      · iexact H5
      ipureintro
      rw [View.read_writes_full, View.readAt_full, View.readAt_full, View.readAt_full, harg1.read_unread, harg5.read_unread, harg7.read_unread]
    iexists _; isplitr; · ipureintro; exact harg7.read_unread _
    iexact HS0

end Cert.Body

end
-- ==== Proof.Launch.lean ====
/-
  The launch: what the pipeline's buffers and the carried scratch hold at each grid point, and the run of the whole
  program to its final state.
-/
module

public import proofs.«01_k».proof.Proof.Body
public import Idealize.ShloMosaic.Lib.Claim

@[expose] public section

set_option maxRecDepth 16384

noncomputable section

namespace Cert.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Nf4 Cert.Body

local notation "𝕄" => MT nD τ sig Unit (Elt Ideal) ℕ (UR sig nD τ) ℕ

variable (m : (ℓ : Loc nD τ sig) → Buf (Elt Ideal) ℓ) (ρ : Dev nD → PrngReg)

/-- The first grid point. -/
def t0 : Fin cfg0.N := ⟨0, lt_of_lt_of_eq (by decide : 0 < 8) (show cfg0.N = 8 from N_0).symm⟩

/-- What the scratch holds once the first point has run. -/
def scratch (c : Dev nD) : Vec Ideal S5120x656 .bf16 := filled (iblk m c 1 t0) (iblk m c 2 t0) (iblk m c 3 t0)

/-- The proof data: the inputs' buffers keep their blocks, the output's buffer ends at the product of its rows, and between the
    points the scratch is at any contents before the first and filled after it. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay5 (F := Ideal) (iblk m c 0 t) (scratch m c) (iblk m c 4 t)
  Φ t := if t.val = 0 then Pipeline.ΦA spec0 c
    else iprop(owns (c : Thread nD τ) scM0_0 fullShare (scratch m c) ∗ (∃ r, prngReg c r))
  q _ := fullShare
  owed _ := 0

/-- The proof data's arrays are the contents the region finds. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = k0_pay5 (F := Ideal) (iblk m c 0 t) (scratch m c) (iblk m c 4 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

/-- The invariant before the first point, -/
theorem Phi_first (c : Dev nD) (t : Fin (cfg0.N + 1)) (h : t.val = 0) : (dats m 0 c).Φ t = Pipeline.ΦA spec0 c := by
  dsimp only [dats]; exact if_pos h
/-- and after it. -/
theorem Phi_later (c : Dev nD) (t : Fin (cfg0.N + 1)) (h : t.val ≠ 0) :
    (dats m 0 c).Φ t = iprop(owns (c : Thread nD τ) scM0_0 fullShare (scratch m c) ∗ (∃ r, prngReg c r)) := by
  dsimp only [dats]; exact if_neg h

set_option maxHeartbeats 1600000 in
/-- The body at any point: the first fills the scratch, the later ones find it filled. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5, Phi_later m c t.succ (Nat.succ_ne_zero _)]
  have hN : t.val < 8 := lt_of_lt_of_eq t.isLt (show cfg0.N = 8 from N_0)
  by_cases h0 : t.val = 0
  · obtain rfl : t = t0 := Fin.ext h0
    rw [Phi_first m c t0.castSucc rfl, PhiA0_eq]
    unfold scratch
    iintro ⟨⟨HS0, Hg⟩, Ho, ⟨%d0, H0⟩, ⟨%d1, H1⟩, ⟨%d2, H2⟩, ⟨%d3, H3⟩, ⟨%d4, H4⟩, ⟨%d5, H5⟩⟩
    iapply ((run_first c (grid0.coords t0) _ _ _ _ _ _ _ _ _ _ _ _ _ _ ((hcond0_0 t0).mpr (by decide)) (iblk m c 0 t0) (iblk m c 1 t0) (iblk m c 2 t0) (iblk m c 3 t0) (iblk m c 4 t0)) Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, H5, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [Phi_later m c t.castSucc h0]
    iintro ⟨⟨HS0, Hg⟩, Ho, ⟨%d0, H0⟩, ⟨%d1, H1⟩, ⟨%d2, H2⟩, ⟨%d3, H3⟩, ⟨%d4, H4⟩, ⟨%d5, H5⟩⟩
    iapply ((run_later c (grid0.coords t) _ _ _ _ _ _ _ _ _ _ _ _ _ _ (fun h => h0 (by have := (hcond0_0 t).mp h; omega)) (iblk m c 0 t) (iblk m c 1 t) (iblk m c 2 t) (iblk m c 3 t) (iblk m c 4 t) (scratch m c)) Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, H5, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    iexact H5

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The body's obligation at every point: its triple restated. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- After the last point the scratch is given back at some contents. -/
theorem Phi_out (c : Dev nD) : (dats m 0 c).Φ (Fin.last cfg0.N) ⊢ Pipeline.ΦA spec0 c := by
  rw [Phi_later m c (Fin.last cfg0.N) (by show cfg0.N ≠ 0; rw [show cfg0.N = 8 from N_0]; decide), PhiA0_eq]
  iintro ⟨HS0, Hg⟩
  isplitl [HS0]
  · iexists _; iexact HS0
  iexact Hg

set_option backward.isDefEq.respectTransparency.types false in
set_option maxHeartbeats 1600000 in
/-- THE LAUNCH: every run of the program ends with the pipeline's arrays at the contents the points wrote, everything else as the
    lines after the call leave it, and every semaphore counter at zero. -/
theorem run_main_quiescent : θ_run defs (onTc (τ := τ) (main (F := Ideal))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m)
    (hin := fun c => by rw [Phi_first m c 0 rfl]) (hout := fun c => Phi_out m c)

/-- The same without the counters. -/
theorem run_main : θ_run defs (onTc (τ := τ) (main (F := Ideal))) (s₀ m ρ)
    (Pipeline.FramePost cfgs (dats m) 0 (Pipeline.afterTail₀ cfgs (dats m) 0 (V0 m) [hostOps1])) :=
  (θ_run defs _ _).mono (fun _ h => h.1) (run_main_quiescent m ρ)

/-- THE FRAME: every run ends with the argument arrays unchanged and every semaphore counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Launch

end
-- ==== Proof.Value.lean ====
/-
  What the kernel computes: each element of its result as a sum over the arguments, and the run of the whole program
  ending with that result.
-/
module

public import proofs.«01_k».proof.Proof.Launch
public import Idealize.ShloMosaic.Lib.Pipeline.ValueKit.Geometry
public import Idealize.ShloMosaic.Lib.Pipeline.ValueKit.Acc

@[expose] public section

set_option maxRecDepth 16384

noncomputable section

namespace Cert.Value

open Idealize.ShloMosaic Idealize.ShloMosaic.TcCoe Idealize.ShloMosaic.Tactic
open Idealize.SL.Sem
open Cert.KernelIdeal Cert.KernelIdeal.Gen Cert.Nf4 Cert.Launch

/-- One element of the kernel's product, over the scratch. -/
theorem pay5_at (x : Vec Ideal S256x5120 .bf16) (w : Vec Ideal S5120x656 .bf16) (b : Vec Ideal S16x640 .bf16) (s : Fin 256) (n : Fin 640) :
    k0_pay5 (F := Ideal) x w b (ix2 s n) = (∑ k : Fin 5120, x (ix2 s k) * w (ix2 k ⟨n.val, by omega⟩))
      + Ideal.ofBits .f32 0x40000000#32 * ∑ r : Fin 16, (∑ k : Fin 5120, x (ix2 s k) * w (ix2 k ⟨640 + r.val, by omega⟩)) * b (ix2 r n) := by
  pointwise [k0_pay5]

/-- One element of the result: the dequantised product plus twice the adapter's. -/
def result (x : Vec Ideal S1x2048x5120 .bf16) (q : Vec Ideal S2560x640 .i8) (z : Vec Ideal S80x640 .f32) (a : Vec Ideal S5120x16 .bf16)
    (b : Vec Ideal S16x640 .bf16) (s : Fin 2048) (n : Fin 640) : EReal :=
  (∑ k : Fin 5120, x (ix3 0 s k) * weight q z k n)
    + Ideal.ofBits .f32 0x40000000#32 * ∑ r : Fin 16, (∑ k : Fin 5120, x (ix3 0 s k) * a (ix2 k r)) * b (ix2 r n)

/-- The filled scratch's columns on either side of 640. -/
theorem filled_left (q : Vec Ideal S2560x640 .i8) (z : Vec Ideal S80x640 .f32) (a : Vec Ideal S5120x16 .bf16) (k : Fin 5120) (n : Fin 640) (h : n.val < 656) :
    filled q z a (ix2 k ⟨n.val, h⟩) = weight q z k n := by
  unfold filled; exact dif_pos n.isLt
theorem filled_right (q : Vec Ideal S2560x640 .i8) (z : Vec Ideal S80x640 .f32) (a : Vec Ideal S5120x16 .bf16) (k : Fin 5120) (r : Fin 16) (h : 640 + r.val < 656) :
    filled q z a (ix2 k ⟨640 + r.val, h⟩) = a (ix2 k r) := by
  unfold filled
  exact (dif_neg (show ¬ 640 + r.val < 640 by omega)).trans
    (congrArg a (congrArg (ix2 k) (Fin.ext (show 640 + r.val - 640 = r.val by omega))))

variable (m : (ℓ : Loc nD τ sig) → Buf (Elt Ideal) ℓ) (g : Dev nD → PrngReg)

/-- Which block each window stages at each point. -/
theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0] := (by decide +kernel : ∀ t : Fin grid0.N, _)

/-- The four windows that stage a whole array hold that array at every point. -/
theorem iblk1 (c : Dev nD) (t : Fin cfg0.N) : (iblk m c 1 t : Vec Ideal S2560x640 .i8) = m ((c : Thread nD τ).loc main_arg1) := by
  rw [← V_main_arg1 m c]
  funext x
  blk_simp [iblk]
  exact congrArg (V m c main_arg1) (by blk_ext [idx1])
theorem iblk2 (c : Dev nD) (t : Fin cfg0.N) : (iblk m c 2 t : Vec Ideal S80x640 .f32) = m ((c : Thread nD τ).loc main_arg2) := by
  rw [← V_main_arg2 m c]
  funext x
  blk_simp [iblk]
  exact congrArg (V m c main_arg2) (by blk_ext [idx2])
theorem iblk3 (c : Dev nD) (t : Fin cfg0.N) : (iblk m c 3 t : Vec Ideal S5120x16 .bf16) = m ((c : Thread nD τ).loc main_arg3) := by
  rw [← V_main_arg3 m c]
  funext x
  blk_simp [iblk]
  exact congrArg (V m c main_arg3) (by blk_ext [idx3])
theorem iblk4 (c : Dev nD) (t : Fin cfg0.N) : (iblk m c 4 t : Vec Ideal S16x640 .bf16) = m ((c : Thread nD τ).loc main_arg4) := by
  rw [← V_main_arg4 m c]
  funext x
  blk_simp [iblk]
  exact congrArg (V m c main_arg4) (by blk_ext [idx4])

/-- The array the activations are staged from is the argument with its leading axis of extent one dropped. -/
theorem V_v0 (c : Dev nD) (s : Fin 2048) (k : Fin 5120) :
    (V m c main_v0 : Vec Ideal S2048x5120 .bf16) (ix2 s k) = (m ((c : Thread nD τ).loc main_arg0) : Vec Ideal S1x2048x5120 .bf16) (ix3 0 s k) := by
  have e : (V m c main_v0 : Vec Ideal S2048x5120 .bf16)
      = shapeCast S2048x5120 (m ((c : Thread nD τ).loc main_arg0) : Vec Ideal S1x2048x5120 .bf16) shapeCasts_S1x2048x5120_S2048x5120 := by
    entry_read
    rw [show ([hostOps0] : List (List (HloOp τ sig (Elt Ideal)))).flatten = [StableHlo.reshape main_arg0 main_v0 (rfl : (.bf16 : EltTy) = .bf16) shapeCasts_S1x2048x5120_S2048x5120] from rfl]
    after_results
    rfl
  rw [e]
  exact (shapeCast_dropUnit_apply ![2048, 5120] _ _ _).trans (congrArg _ (funext fun a => by fin_cases a <;> rfl))

/-- A block of activations is 256 of its rows. -/
theorem iblk0 (c : Dev nD) (t : Fin cfg0.N) (s : Fin 256) (k : Fin 5120) (s' : Fin 2048) (h : s'.val = t.val * 256 + s.val) :
    (iblk m c 0 t : Vec Ideal S256x5120 .bf16) (ix2 s k) = (m ((c : Thread nD τ).loc main_arg0) : Vec Ideal S1x2048x5120 .bf16) (ix3 0 s' k) := by
  rw [← V_v0 m c]
  blk_simp [iblk]
  exact congrArg (V m c main_v0) (by blk_ext [idx0, h])

/-- What the scratch holds from the first point on, over the arguments. -/
theorem scratch_eq (c : Dev nD) : scratch m c = filled (m ((c : Thread nD τ).loc main_arg1)) (m ((c : Thread nD τ).loc main_arg2)) (m ((c : Thread nD τ).loc main_arg3)) := by
  unfold scratch; rw [iblk1, iblk2, iblk3]

/-- The array the points write. -/
theorem final (c : Dev nD) : (dats m 0 c).arrAt 5 cfg0.N
    = ((fun i => result (m ((c : Thread nD τ).loc main_arg0)) (m ((c : Thread nD τ).loc main_arg1)) (m ((c : Thread nD τ).loc main_arg2)) (m ((c : Thread nD τ).loc main_arg3)) (m ((c : Thread nD τ).loc main_arg4)) (i 0) (i 1)) : Vec Ideal S2048x640 .bf16) := by
  refine (dats m 0 c).arrAt_eq_of_covers 5 _ (by decide +kernel) fun t hf y => ?_
  blk_simp
  rw [after0_5, scratch_eq, iblk4]
  obtain ⟨s, n, rfl⟩ : ∃ (s : Fin 256) (n : Fin 640), y = (ix2 s n : S256x640.Idx) := ⟨y 0, y 1, eq_ix2 (y : S256x640.Idx)⟩
  rw [pay5_at]
  have ht : t.val < 8 := lt_of_lt_of_eq t.isLt (show cfg0.N = 8 from N_0)
  rw [show ((win0_5.blk t).view.emb (ix2 s n : S256x640.Idx) 0) = (⟨t.val * 256 + s.val, by omega⟩ : Fin 2048) from Fin.ext (by blk_simp [idx5]),
    show ((win0_5.blk t).view.emb (ix2 s n : S256x640.Idx) 1) = n from Fin.ext (by blk_simp [idx5])]
  unfold result
  simp only [iblk0 m c t s _ ⟨t.val * 256 + s.val, by omega⟩ rfl, filled_left, filled_right]

/-- THE KERNEL'S VALUE: every run ends with the result array at `result` of the arguments, which are unchanged. -/
theorem run_value : θ_run defs (onTc (τ := τ) (main (F := Ideal))) ⟨m, fun _ => 0, g⟩ (fun r => ∀ c : Dev nD,
      r.2.mem ((c.tc : Thread nD τ).loc main_v2)
        = ((fun i => result (m ((c : Thread nD τ).loc main_arg0)) (m ((c : Thread nD τ).loc main_arg1)) (m ((c : Thread nD τ).loc main_arg2)) (m ((c : Thread nD τ).loc main_arg3)) (m ((c : Thread nD τ).loc main_arg4)) (i 1) (i 2)) : Vec Ideal S1x2048x640 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  run_from (Launch.run_main m g)
  · unfold Pipeline.afterTail₀
    rw [show ([hostOps1] : List (List (HloOp τ sig (Elt Ideal)))).flatten = [StableHlo.reshape main_v1 main_v2 (rfl : (.bf16 : EltTy) = .bf16) shapeCasts_S2048x640_S1x2048x640] from rfl]
    after_results
    rw [show Pipeline.withArrays (cfgs 0).spec c (V0 m c) (fun w => (dats m 0 c).arrAt w (cfgs 0).N) (Proc.tc.devRef main_v1) = (dats m 0 c).arrAt 5 cfg0.N
      from Pipeline.withArrays_arr (cfgs 0).spec launch0.win.arr_inj c (V0 m c) (fun w => (dats m 0 c).arrAt w (cfgs 0).N) 5, final]
    funext i
    exact shapeCast_addUnit_apply ![2048, 640] _ _ i
  · exact W_main_arg0 m (dats m) c
end Cert.Value

end
-- ==== Proof.Reference.lean ====
/-
  What the reference computes: its codes, table lookup, weights and result, each read at one index, and its result as the
  same sum over the arguments as the kernel's.
-/
module

public import proofs.«01_k».proof.Proof.Gen.ReferenceIdeal.Run
public import proofs.«01_k».proof.Proof.Value

@[expose] public section

set_option maxRecDepth 16384

noncomputable section

namespace Cert.Reference

open Idealize.ShloMosaic Idealize.ShloMosaic.TcCoe Idealize.ShloMosaic.Tactic
open Cert.ReferenceIdeal Cert.ReferenceIdeal.Gen Cert.Nf4

/-- The reference's 4-bit codes, one 32-bit word per weight. -/
def code (q : Vec Ideal S2560x640 .i8) : IVec S5120x640 32 :=
  shapeCast S5120x640 (andi (Host.shrsi
      (broadcastInDim S2560x2x640 ![0, 1, 2] bcast_S2560x1x640_S2560x2x640_0_1_2 (broadcastInDim S2560x1x640 ![0, 2] bcast_S2560x640_S2560x1x640_0_2 (extui 32 q natLt_8_32)))
      (broadcastInDim S2560x2x640 ![0, 1, 2] bcast_S1x2x1_S2560x2x640_0_1_2 (broadcastInDim S1x2x1 ![1] bcast_S2_S1x2x1_1 ((fun i => lit0 (S2.rowMajor i))))))
      (broadcastInDim S2560x2x640 ![] bcast_S_S2560x2x640 (constantI S_ 32 15#32))) shapeCasts_S2560x2x640_S5120x640

/-- The shift amounts, read at an index of length two: the row-major position is the index itself. -/
theorem shift_at : ∀ h : Fin 2, lit0 (S2.rowMajor (ix1 h)) = lit0 h := by
  decide +kernel

/-- The code of row `r`: the byte of row `r / 2`, shifted down by 0 or 4 bits, its low four bits. -/
theorem code_at (q : Vec Ideal S2560x640 .i8) (r : Fin 5120) (c : Fin 640) :
    code q (ix2 r c) = IntOp.andi (IntOp.shrsi ArithUnit.host
      ((show BitVec 8 from q (ix2 ⟨r.val / 2, by omega⟩ c)).setWidth 32) (lit0 ⟨r.val % 2, by omega⟩)) 15#32 := by
  unfold code
  pointwise
  rw [shift_at]

/-- Bit `k` of every code, as the reference tests it. -/
def flag (q : Vec Ideal S2560x640 .i8) (k : BitVec 32) : IVec S5120x640 1 :=
  cmpi .eq (andi (Host.shrsi (code q) (broadcastInDim S5120x640 ![] bcast_S_S5120x640 (constantI S_ 32 k)))
      (broadcastInDim S5120x640 ![] bcast_S_S5120x640 (constantI S_ 32 1#32))) (broadcastInDim S5120x640 ![] bcast_S_S5120x640 (constantI S_ 32 1#32))

/-- The test of bit `k` at one index. -/
theorem flag_code (q : Vec Ideal S2560x640 .i8) (k : BitVec 32) (y : S5120x640.Idx) :
    flag q k y = IntOp.cmpi .eq (IntOp.andi (IntOp.shrsi ArithUnit.host (code q y) k) 1#32) 1#32 := by
  unfold flag
  generalize code q = u
  pointwise

/-- On every byte, each half and each bit: shift, mask, shift, mask and compare is the byte's bit. -/
theorem bit_of_byte : ∀ (p : BitVec 8) (h : Fin 2) (k : Fin 4),
    IntOp.cmpi .eq (IntOp.andi (IntOp.shrsi ArithUnit.host (IntOp.andi (IntOp.shrsi ArithUnit.host
      (p.setWidth 32) (lit0 h)) 15#32) (BitVec.ofNat 32 k.val)) 1#32) 1#32 = bit p (4 * h.val + k.val) := by
  decide +kernel

/-- Bit `k` of the code of row `r` is bit `4 (r % 2) + k` of the byte of row `r / 2`. -/
theorem flag_at (q : Vec Ideal S2560x640 .i8) (k : Fin 4) (r : Fin 5120) (c : Fin 640) :
    flag q (BitVec.ofNat 32 k.val) (ix2 r c)
      = bit (q (ix2 ⟨r.val / 2, by omega⟩ c)) (4 * (r.val % 2) + k.val) := by
  rw [flag_code, code_at]
  exact bit_of_byte _ ⟨r.val % 2, by omega⟩ k

/-- The reference's table lookup. -/
def look (q : Vec Ideal S2560x640 .i8) : FVec Ideal S5120x640 .bf16 :=
  select (flag q 3#32) (select (flag q 2#32) (select (flag q 1#32) (select (flag q 0#32) (broadcastInDim S5120x640 ![] bcast_S_S5120x640 (constant S_ .bf16 0x3F80#16))
      (broadcastInDim S5120x640 ![] bcast_S_S5120x640 (constant S_ .bf16 0x3F39#16)))
      (select (flag q 0#32) (broadcastInDim S5120x640 ![] bcast_S_S5120x640 (constant S_ .bf16 0x3F10#16))
      (broadcastInDim S5120x640 ![] bcast_S_S5120x640 (constant S_ .bf16 0x3EE2#16))))
      (select (flag q 1#32) (select (flag q 0#32) (broadcastInDim S5120x640 ![] bcast_S_S5120x640 (constant S_ .bf16 0x3EAD#16))
      (broadcastInDim S5120x640 ![] bcast_S_S5120x640 (constant S_ .bf16 0x3E7C#16)))
      (select (flag q 0#32) (broadcastInDim S5120x640 ![] bcast_S_S5120x640 (constant S_ .bf16 0x3E25#16))
      (broadcastInDim S5120x640 ![] bcast_S_S5120x640 (constant S_ .bf16 0x3DA3#16)))))
      (select (flag q 2#32) (select (flag q 1#32) (select (flag q 0#32) (broadcastInDim S5120x640 ![] bcast_S_S5120x640 (constant S_ .bf16 0x0000#16))
      (broadcastInDim S5120x640 ![] bcast_S_S5120x640 (constant S_ .bf16 0xBDBA#16)))
      (select (flag q 0#32) (broadcastInDim S5120x640 ![] bcast_S_S5120x640 (constant S_ .bf16 0xBE3D#16))
      (broadcastInDim S5120x640 ![] bcast_S_S5120x640 (constant S_ .bf16 0xBE92#16))))
      (select (flag q 1#32) (select (flag q 0#32) (broadcastInDim S5120x640 ![] bcast_S_S5120x640 (constant S_ .bf16 0xBECA#16))
      (broadcastInDim S5120x640 ![] bcast_S_S5120x640 (constant S_ .bf16 0xBF06#16)))
      (select (flag q 0#32) (broadcastInDim S5120x640 ![] bcast_S_S5120x640 (constant S_ .bf16 0xBF32#16))
      (broadcastInDim S5120x640 ![] bcast_S_S5120x640 (constant S_ .bf16 0xBF80#16)))))

/-- The lookup at row `r` is the table's entry of that half of the byte. -/
theorem look_at (q : Vec Ideal S2560x640 .i8) (r : Fin 5120) (c : Fin 640) :
    look q (ix2 r c) = entry (q (ix2 ⟨r.val / 2, by omega⟩ c)) (r.val % 2) := by
  have e : look q (ix2 r c) = table (flag q 3#32 (ix2 r c)) (flag q 2#32 (ix2 r c))
      (flag q 1#32 (ix2 r c)) (flag q 0#32 (ix2 r c)) := rfl
  rw [e]
  have h0 := flag_at q 0 r c
  have h1 := flag_at q 1 r c
  have h2 := flag_at q 2 r c
  have h3 := flag_at q 3 r c
  unfold entry
  exact congrFun (congr (congr (congrArg table h3) h2) h1) _ |>.trans (congrArg _ h0)

/-- The reference's weights: the lookup times its block's scale. -/
def weights (q : Vec Ideal S2560x640 .i8) (z : Vec Ideal S80x640 .f32) : FVec Ideal S5120x640 .bf16 :=
  shapeCast S5120x640 (mulf (shapeCast S80x64x640 (look q) shapeCasts_S5120x640_S80x64x640)
      (broadcastInDim S80x64x640 ![0, 1, 2] bcast_S80x1x640_S80x64x640_0_1_2 (broadcastInDim S80x1x640 ![0, 2] bcast_S80x640_S80x1x640_0_2 (truncf .bf16 z bitsLt_bf16_f32)))) shapeCasts_S80x64x640_S5120x640

/-- The reference's weight at one index. -/
theorem weights_at (q : Vec Ideal S2560x640 .i8) (z : Vec Ideal S80x640 .f32) (r : Fin 5120) (c : Fin 640) :
    weights q z (ix2 r c) = weight q z r c := by
  unfold weight
  rw [← look_at]
  unfold weights
  generalize look q = u
  pointwise

/-- The reference's result from the weights. -/
def out (x : Vec Ideal S1x2048x5120 .bf16) (w : FVec Ideal S5120x640 .bf16) (a : Vec Ideal S5120x16 .bf16)
    (b : Vec Ideal S16x640 .bf16) : Vec Ideal S1x2048x640 .bf16 :=
  truncf .bf16 (addf (Host.dotGeneral (φ₁ := .bf16) (φ₂ := .bf16) dot_S1x2048x5120_S5120x640_S1x2048x640_2_0_01_1_n_n none x w)
      (mulf (broadcastInDim S1x2048x640 ![] bcast_S_S1x2048x640 (constant S_ .f32 0x40000000#32))
      (Host.dotGeneral (φ₁ := .bf16) (φ₂ := .bf16) dot_S1x2048x16_S16x640_S1x2048x640_2_0_01_1_n_n none (truncf .bf16 (Host.dotGeneral (φ₁ := .bf16) (φ₂ := .bf16) dot_S1x2048x5120_S5120x16_S1x2048x16_2_0_01_1_n_n none x a) bitsLt_bf16_f32) b))) bitsLt_bf16_f32

/-- The result at one index: the product with the weights plus twice the low-rank product. -/
theorem out_at (x : Vec Ideal S1x2048x5120 .bf16) (w : FVec Ideal S5120x640 .bf16) (a : Vec Ideal S5120x16 .bf16)
    (b : Vec Ideal S16x640 .bf16) (s : Fin 2048) (n : Fin 640) :
    out x w a b (ix3 0 s n) = (∑ k : Fin 5120, x (ix3 0 s k) * w (ix2 k n))
      + Ideal.ofBits .f32 0x40000000#32 * ∑ r : Fin 16, (∑ k : Fin 5120, x (ix3 0 s k) * a (ix2 k r)) * b (ix2 r n) := by
  unfold out
  pointwise

open Cert.ReferenceIdeal.Value in
/-- The run's result is this module's. -/
theorem out_eq (m : (ℓ : Loc nD τ sig) → Buf (Elt Ideal) ℓ) (c : Dev nD) :
    res_main_v61 m c = out (m ((c.tc : Thread nD τ).loc main_arg0))
      (weights (m ((c.tc : Thread nD τ).loc main_arg1)) (m ((c.tc : Thread nD τ).loc main_arg2)))
      (m ((c.tc : Thread nD τ).loc main_arg3)) (m ((c.tc : Thread nD τ).loc main_arg4)) := by
  unfold res_main_v61 out weights look flag code
  rfl

open Cert.ReferenceIdeal.Value in
/-- The reference's result is the kernel's, of the same arguments. -/
theorem res_eq (m : (ℓ : Loc nD τ sig) → Buf (Elt Ideal) ℓ) (c : Dev nD) :
    res_main_v61 m c = ((fun i => Cert.Value.result (m ((c.tc : Thread nD τ).loc main_arg0))
      (m ((c.tc : Thread nD τ).loc main_arg1)) (m ((c.tc : Thread nD τ).loc main_arg2))
      (m ((c.tc : Thread nD τ).loc main_arg3)) (m ((c.tc : Thread nD τ).loc main_arg4)) (i 1) (i 2)) :
      Vec Ideal S1x2048x640 .bf16) := by
  rw [out_eq]
  funext i
  obtain ⟨s, n, rfl⟩ : ∃ (s : Fin 2048) (n : Fin 640), i = ix3 (0 : Fin 1) s n :=
    ⟨i 1, i 2, (eq_ix3 i).trans (congrArg (fun j : Fin 1 => ix3 j (i 1) (i 2)) (Subsingleton.elim (α := Fin 1) (i 0) 0))⟩
  refine (out_at _ _ _ _ s n).trans ?_
  simp only [weights_at]
  rfl

end Cert.Reference

end
-- ==== Proof.lean ====
/-
  The certificate: the five claims put together from the modules that prove them. The runs of the kernel and of the
  reference end with the same sum over the arguments (`Value.result`), element by element.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelFrame
public import proofs.«01_k».proof.Proof.Launch
public import proofs.«01_k».proof.Proof.Value
public import proofs.«01_k».proof.Proof.Reference
public import Idealize.ShloMosaic.Adequacy
public import Idealize.ShloMosaic.Init

@[expose] public section

noncomputable section

namespace Cert.Proof

open Idealize.ShloMosaic Idealize.ShloMosaic.Tactic Idealize.SL.Sem

/-- The reference is host operations only: it ends with its arguments unchanged and every counter at zero. -/
theorem reference_frame : Cert.quiescent_ReferenceIdeal (hReferenceIdeal := Cert.ReferenceIdeal.Gen.facts) := by
  intro m g _
  exact (θ_run Cert.ReferenceIdeal.defs _ _).mono
    (fun r h => ⟨fun c => (h c).2, Idealize.ShloMosaic.sem_eq_zero_of_no_sems (by decide) r.2⟩)
    (Cert.ReferenceIdeal.Value.run m g)

/-- The kernel and the reference, from equal arguments, end with equal results. -/
theorem equal_results : Cert.algebraic_KernelIdeal_ReferenceIdeal (hKernelIdeal := Cert.KernelIdeal.Gen.facts)
    (hReferenceIdeal := Cert.ReferenceIdeal.Gen.facts) := by
  pair_intro
  · run_from (Cert.Value.run_value m g)
  · refine (θ_run Cert.ReferenceIdeal.defs _ _).mono (fun r h c => ⟨((h c).1.trans (Cert.Reference.res_eq m' c)).trans ?_, (h c).2⟩)
      (Cert.ReferenceIdeal.Value.run m' g')
    obtain ⟨e0, e1, e2, e3, e4⟩ := hagree c
    rw [e0, e1, e2, e3, e4]

/-- Every claim of the certificate. -/
theorem claim : Cert.Claim := ⟨Cert.Kernel.Gen.facts, Cert.KernelIdeal.Gen.facts, Cert.ReferenceIdeal.Gen.facts,
  fun m ρ _ => Cert.KernelFrame.frame m ρ, fun m ρ _ => Cert.Launch.frame m ρ, reference_frame, trivial, equal_results⟩

end Cert.Proof

end
